-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v372) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x5200 : Shape := ⟨2, ![4096, 5200]⟩
abbrev S26 : Shape := ⟨1, ![26]⟩
abbrev S_ : Shape := ⟨0, ![]⟩
abbrev S32 : Shape := ⟨1, ![32]⟩
abbrev S4096x208 : Shape := ⟨2, ![4096, 208]⟩
abbrev S8x5200 : Shape := ⟨2, ![8, 5200]⟩
abbrev S8x208 : Shape := ⟨2, ![8, 208]⟩
abbrev S16 : Shape := ⟨1, ![16]⟩

abbrev nBuf : Table → Nat
  | .hbm => 10
  | .local .scVector .vmem => 5
  | _ => 0

abbrev bufTy : (tb : Table) → Fin (nBuf tb) → BufTy
  | .hbm, ⟨0, _⟩ => ⟨S4096x5200, .f32⟩
  | .hbm, ⟨1, _⟩ => ⟨S26, .f32⟩
  | .hbm, ⟨2, _⟩ => ⟨S26, .f32⟩
  | .hbm, ⟨3, _⟩ => ⟨S_, .i32⟩
  | .hbm, ⟨4, _⟩ => ⟨S_, .f32⟩
  | .hbm, ⟨5, _⟩ => ⟨S32, .f32⟩
  | .hbm, ⟨6, _⟩ => ⟨S_, .i32⟩
  | .hbm, ⟨7, _⟩ => ⟨S_, .f32⟩
  | .hbm, ⟨8, _⟩ => ⟨S32, .f32⟩
  | .hbm, ⟨9, _⟩ => ⟨S4096x208, .f32⟩
  | .local .scVector .vmem, ⟨0, _⟩ => ⟨S32, .f32⟩
  | .local .scVector .vmem, ⟨1, _⟩ => ⟨S32, .f32⟩
  | .local .scVector .vmem, ⟨2, _⟩ => ⟨S8x5200, .f32⟩
  | .local .scVector .vmem, ⟨3, _⟩ => ⟨S8x5200, .f32⟩
  | .local .scVector .vmem, ⟨4, _⟩ => ⟨S8x208, .f32⟩
  | _, _ => ⟨S4096x5200, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_c_0 : Ref sig .tc := ⟨.hbm, 6, rfl⟩
abbrev main_call1_v0 : Ref sig .tc := ⟨.hbm, 7, rfl⟩
abbrev main_v1 : Ref sig .tc := ⟨.hbm, 8, rfl⟩
abbrev main_v2 : Ref sig .tc := ⟨.hbm, 9, rfl⟩
abbrev main_arg0_scv : Ref sig .scVector := ⟨.hbm, 0, rfl⟩
abbrev main_v0_scv : Ref sig .scVector := ⟨.hbm, 5, rfl⟩
abbrev main_v1_scv : Ref sig .scVector := ⟨.hbm, 8, rfl⟩
abbrev main_v2_scv : Ref sig .scVector := ⟨.hbm, 9, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32 : BitVec 32 := 0#32
  let v7 : BitVec 32 := Scalar.addi v2 c0_i32
  let c0_i32_0 : BitVec 32 := 0#32
  ![v7.toNat, 0]
@[reducible] def k0_t1_loop : Scf.Loop 32 :=
  let c0_i32_3 : BitVec 32 := 0#32
  let c8_i32_4 : BitVec 32 := 8#32
  let v10 : BitVec 32 := Scalar.addi c0_i32_3 c8_i32_4
  let c1_i32 : BitVec 32 := 1#32
  ⟨c0_i32_3, v10, c1_i32⟩
def k0_off2 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2_i32_6 : BitVec 32 := 2#32
  let c0_i32_3 : BitVec 32 := 0#32
  let c1_i32 : BitVec 32 := 1#32
  let arg14 : BitVec 32 := Scf.iv c0_i32_3 c1_i32 k0_t1
  let v11 : BitVec 32 := Scalar.muli c2_i32_6 arg14
  let c1_i32_7 : BitVec 32 := 1#32
  let v12 : BitVec 32 := Scalar.addi v11 c1_i32_7
  let c8_i32_8 : BitVec 32 := 8#32
  let v13 : BitVec 32 := Scalar.muli v12 c8_i32_8
  let v14 : BitVec 32 := Scalar.addi v2 v13
  let c0_i32_9 : BitVec 32 := 0#32
  ![v14.toNat, 0]
def k0_off3 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2_i32_6 : BitVec 32 := 2#32
  let c0_i32_3 : BitVec 32 := 0#32
  let c1_i32 : BitVec 32 := 1#32
  let arg14 : BitVec 32 := Scf.iv c0_i32_3 c1_i32 k0_t1
  let v11 : BitVec 32 := Scalar.muli c2_i32_6 arg14
  let c8_i32_11 : BitVec 32 := 8#32
  let v17 : BitVec 32 := Scalar.muli v11 c8_i32_11
  let v18 : BitVec 32 := Scalar.addi v2 v17
  let c0_i32_12 : BitVec 32 := 0#32
  ![v18.toNat, 0]
@[reducible] def k0_t2_loop : Scf.Loop 32 :=
  let c0_i32_16 : BitVec 32 := 0#32
  let c8_i32_17 : BitVec 32 := 8#32
  let v23 : BitVec 32 := Scalar.addi c0_i32_16 c8_i32_17
  let c1_i32_18 : BitVec 32 := 1#32
  ⟨c0_i32_16, v23, c1_i32_18⟩
@[reducible] def k0_t3_loop : Scf.Loop 32 :=
  let c0_i32_46 : BitVec 32 := 0#32
  let c25_i32 : BitVec 32 := 25#32
  let v57 : BitVec 32 := Scalar.addi c0_i32_46 c25_i32
  let c1_i32_47 : BitVec 32 := 1#32
  ⟨c0_i32_46, v57, c1_i32_47⟩

def k0_chk1 (v46 : IVec S16 32) (v154 : IVec S16 32) : Prop :=
  (∀ a x, ((![v46, v154] : Fin 2 → IVec S16 32) a x).toNat < S8x5200.size a)
theorem k0_idx1_inb : ∀ (v46 : IVec S16 32) (v154 : IVec S16 32) (k0_hw1 : k0_chk1 v46 v154), ∀ a x, ((![v46, v154] : Fin 2 → IVec S16 32) a x).toNat < S8x5200.size a := fun v46 v154 k0_hw1 => k0_hw1

def k0_chk2 (v46 : IVec S16 32) (v158 : IVec S16 32) : Prop :=
  (∀ a x, ((![v46, v158] : Fin 2 → IVec S16 32) a x).toNat < S8x5200.size a)
theorem k0_idx2_inb : ∀ (v46 : IVec S16 32) (v158 : IVec S16 32) (k0_hw2 : k0_chk2 v46 v158), ∀ a x, ((![v46, v158] : Fin 2 → IVec S16 32) a x).toNat < S8x5200.size a := fun v46 v158 k0_hw2 => k0_hw2

def k0_chk3 (v46 : IVec S16 32) (v162 : IVec S16 32) : Prop :=
  (∀ a x, ((![v46, v162] : Fin 2 → IVec S16 32) a x).toNat < S8x5200.size a)
theorem k0_idx3_inb : ∀ (v46 : IVec S16 32) (v162 : IVec S16 32) (k0_hw3 : k0_chk3 v46 v162), ∀ a x, ((![v46, v162] : Fin 2 → IVec S16 32) a x).toNat < S8x5200.size a := fun v46 v162 k0_hw3 => k0_hw3

def k0_chk4 (v46 : IVec S16 32) (v166 : IVec S16 32) : Prop :=
  (∀ a x, ((![v46, v166] : Fin 2 → IVec S16 32) a x).toNat < S8x5200.size a)
theorem k0_idx4_inb : ∀ (v46 : IVec S16 32) (v166 : IVec S16 32) (k0_hw4 : k0_chk4 v46 v166), ∀ a x, ((![v46, v166] : Fin 2 → IVec S16 32) a x).toNat < S8x5200.size a := fun v46 v166 k0_hw4 => k0_hw4

def k0_chk5 (v46 : IVec S16 32) (v170 : IVec S16 32) : Prop :=
  (∀ a x, ((![v46, v170] : Fin 2 → IVec S16 32) a x).toNat < S8x5200.size a)
theorem k0_idx5_inb : ∀ (v46 : IVec S16 32) (v170 : IVec S16 32) (k0_hw5 : k0_chk5 v46 v170), ∀ a x, ((![v46, v170] : Fin 2 → IVec S16 32) a x).toNat < S8x5200.size a := fun v46 v170 k0_hw5 => k0_hw5

def k0_chk6 (v46 : IVec S16 32) (v174 : IVec S16 32) : Prop :=
  (∀ a x, ((![v46, v174] : Fin 2 → IVec S16 32) a x).toNat < S8x5200.size a)
theorem k0_idx6_inb : ∀ (v46 : IVec S16 32) (v174 : IVec S16 32) (k0_hw6 : k0_chk6 v46 v174), ∀ a x, ((![v46, v174] : Fin 2 → IVec S16 32) a x).toNat < S8x5200.size a := fun v46 v174 k0_hw6 => k0_hw6

def k0_chk7 (v46 : IVec S16 32) (v178 : IVec S16 32) : Prop :=
  (∀ a x, ((![v46, v178] : Fin 2 → IVec S16 32) a x).toNat < S8x5200.size a)
theorem k0_idx7_inb : ∀ (v46 : IVec S16 32) (v178 : IVec S16 32) (k0_hw7 : k0_chk7 v46 v178), ∀ a x, ((![v46, v178] : Fin 2 → IVec S16 32) a x).toNat < S8x5200.size a := fun v46 v178 k0_hw7 => k0_hw7

def k0_chk8 (v46 : IVec S16 32) (v182 : IVec S16 32) : Prop :=
  (∀ a x, ((![v46, v182] : Fin 2 → IVec S16 32) a x).toNat < S8x5200.size a)
theorem k0_idx8_inb : ∀ (v46 : IVec S16 32) (v182 : IVec S16 32) (k0_hw8 : k0_chk8 v46 v182), ∀ a x, ((![v46, v182] : Fin 2 → IVec S16 32) a x).toNat < S8x5200.size a := fun v46 v182 k0_hw8 => k0_hw8

def k0_chk9 (v46 : IVec S16 32) (v62 : IVec S16 32) : Prop :=
  (∀ a x, ((![v46, v62] : Fin 2 → IVec S16 32) a x).toNat < S8x208.size a)
theorem k0_idx9_inb : ∀ (v46 : IVec S16 32) (v62 : IVec S16 32) (k0_hw9 : k0_chk9 v46 v62), ∀ a x, ((![v46, v62] : Fin 2 → IVec S16 32) a x).toNat < S8x208.size a := fun v46 v62 k0_hw9 => k0_hw9

def k0_chk10 (v46 : IVec S16 32) (v66 : IVec S16 32) : Prop :=
  (∀ a x, ((![v46, v66] : Fin 2 → IVec S16 32) a x).toNat < S8x208.size a)
theorem k0_idx10_inb : ∀ (v46 : IVec S16 32) (v66 : IVec S16 32) (k0_hw10 : k0_chk10 v46 v66), ∀ a x, ((![v46, v66] : Fin 2 → IVec S16 32) a x).toNat < S8x208.size a := fun v46 v66 k0_hw10 => k0_hw10

def k0_chk11 (v46 : IVec S16 32) (v70 : IVec S16 32) : Prop :=
  (∀ a x, ((![v46, v70] : Fin 2 → IVec S16 32) a x).toNat < S8x208.size a)
theorem k0_idx11_inb : ∀ (v46 : IVec S16 32) (v70 : IVec S16 32) (k0_hw11 : k0_chk11 v46 v70), ∀ a x, ((![v46, v70] : Fin 2 → IVec S16 32) a x).toNat < S8x208.size a := fun v46 v70 k0_hw11 => k0_hw11

def k0_chk12 (v46 : IVec S16 32) (v74 : IVec S16 32) : Prop :=
  (∀ a x, ((![v46, v74] : Fin 2 → IVec S16 32) a x).toNat < S8x208.size a)
theorem k0_idx12_inb : ∀ (v46 : IVec S16 32) (v74 : IVec S16 32) (k0_hw12 : k0_chk12 v46 v74), ∀ a x, ((![v46, v74] : Fin 2 → IVec S16 32) a x).toNat < S8x208.size a := fun v46 v74 k0_hw12 => k0_hw12

def k0_chk13 (v46 : IVec S16 32) (v78 : IVec S16 32) : Prop :=
  (∀ a x, ((![v46, v78] : Fin 2 → IVec S16 32) a x).toNat < S8x208.size a)
theorem k0_idx13_inb : ∀ (v46 : IVec S16 32) (v78 : IVec S16 32) (k0_hw13 : k0_chk13 v46 v78), ∀ a x, ((![v46, v78] : Fin 2 → IVec S16 32) a x).toNat < S8x208.size a := fun v46 v78 k0_hw13 => k0_hw13

def k0_chk14 (v46 : IVec S16 32) (v82 : IVec S16 32) : Prop :=
  (∀ a x, ((![v46, v82] : Fin 2 → IVec S16 32) a x).toNat < S8x208.size a)
theorem k0_idx14_inb : ∀ (v46 : IVec S16 32) (v82 : IVec S16 32) (k0_hw14 : k0_chk14 v46 v82), ∀ a x, ((![v46, v82] : Fin 2 → IVec S16 32) a x).toNat < S8x208.size a := fun v46 v82 k0_hw14 => k0_hw14

def k0_chk15 (v46 : IVec S16 32) (v86 : IVec S16 32) : Prop :=
  (∀ a x, ((![v46, v86] : Fin 2 → IVec S16 32) a x).toNat < S8x208.size a)
theorem k0_idx15_inb : ∀ (v46 : IVec S16 32) (v86 : IVec S16 32) (k0_hw15 : k0_chk15 v46 v86), ∀ a x, ((![v46, v86] : Fin 2 → IVec S16 32) a x).toNat < S8x208.size a := fun v46 v86 k0_hw15 => k0_hw15

def k0_chk16 (v46 : IVec S16 32) (v90 : IVec S16 32) : Prop :=
  (∀ a x, ((![v46, v90] : Fin 2 → IVec S16 32) a x).toNat < S8x208.size a)
theorem k0_idx16_inb : ∀ (v46 : IVec S16 32) (v90 : IVec S16 32) (k0_hw16 : k0_chk16 v46 v90), ∀ a x, ((![v46, v90] : Fin 2 → IVec S16 32) a x).toNat < S8x208.size a := fun v46 v90 k0_hw16 => k0_hw16
@[reducible] def k0_t4_loop : Scf.Loop 32 :=
  let c0_i32_57 : BitVec 32 := 0#32
  let c25_i32_58 : BitVec 32 := 25#32
  let v101 : BitVec 32 := Scalar.addi c0_i32_57 c25_i32_58
  let c1_i32_59 : BitVec 32 := 1#32
  ⟨c0_i32_57, v101, c1_i32_59⟩

def k0_chk17 (v46 : IVec S16 32) (v156 : IVec S16 32) : Prop :=
  (∀ a x, ((![v46, v156] : Fin 2 → IVec S16 32) a x).toNat < S8x5200.size a)
theorem k0_idx17_inb : ∀ (v46 : IVec S16 32) (v156 : IVec S16 32) (k0_hw17 : k0_chk17 v46 v156), ∀ a x, ((![v46, v156] : Fin 2 → IVec S16 32) a x).toNat < S8x5200.size a := fun v46 v156 k0_hw17 => k0_hw17

def k0_chk18 (v46 : IVec S16 32) (v162 : IVec S16 32) : Prop :=
  (∀ a x, ((![v46, v162] : Fin 2 → IVec S16 32) a x).toNat < S8x5200.size a)
theorem k0_idx18_inb : ∀ (v46 : IVec S16 32) (v162 : IVec S16 32) (k0_hw18 : k0_chk18 v46 v162), ∀ a x, ((![v46, v162] : Fin 2 → IVec S16 32) a x).toNat < S8x5200.size a := fun v46 v162 k0_hw18 => k0_hw18

def k0_chk19 (v46 : IVec S16 32) (v168 : IVec S16 32) : Prop :=
  (∀ a x, ((![v46, v168] : Fin 2 → IVec S16 32) a x).toNat < S8x5200.size a)
theorem k0_idx19_inb : ∀ (v46 : IVec S16 32) (v168 : IVec S16 32) (k0_hw19 : k0_chk19 v46 v168), ∀ a x, ((![v46, v168] : Fin 2 → IVec S16 32) a x).toNat < S8x5200.size a := fun v46 v168 k0_hw19 => k0_hw19

def k0_chk20 (v46 : IVec S16 32) (v174 : IVec S16 32) : Prop :=
  (∀ a x, ((![v46, v174] : Fin 2 → IVec S16 32) a x).toNat < S8x5200.size a)
theorem k0_idx20_inb : ∀ (v46 : IVec S16 32) (v174 : IVec S16 32) (k0_hw20 : k0_chk20 v46 v174), ∀ a x, ((![v46, v174] : Fin 2 → IVec S16 32) a x).toNat < S8x5200.size a := fun v46 v174 k0_hw20 => k0_hw20

def k0_chk21 (v46 : IVec S16 32) (v180 : IVec S16 32) : Prop :=
  (∀ a x, ((![v46, v180] : Fin 2 → IVec S16 32) a x).toNat < S8x5200.size a)
theorem k0_idx21_inb : ∀ (v46 : IVec S16 32) (v180 : IVec S16 32) (k0_hw21 : k0_chk21 v46 v180), ∀ a x, ((![v46, v180] : Fin 2 → IVec S16 32) a x).toNat < S8x5200.size a := fun v46 v180 k0_hw21 => k0_hw21

def k0_chk22 (v46 : IVec S16 32) (v186 : IVec S16 32) : Prop :=
  (∀ a x, ((![v46, v186] : Fin 2 → IVec S16 32) a x).toNat < S8x5200.size a)
theorem k0_idx22_inb : ∀ (v46 : IVec S16 32) (v186 : IVec S16 32) (k0_hw22 : k0_chk22 v46 v186), ∀ a x, ((![v46, v186] : Fin 2 → IVec S16 32) a x).toNat < S8x5200.size a := fun v46 v186 k0_hw22 => k0_hw22

def k0_chk23 (v46 : IVec S16 32) (v192 : IVec S16 32) : Prop :=
  (∀ a x, ((![v46, v192] : Fin 2 → IVec S16 32) a x).toNat < S8x5200.size a)
theorem k0_idx23_inb : ∀ (v46 : IVec S16 32) (v192 : IVec S16 32) (k0_hw23 : k0_chk23 v46 v192), ∀ a x, ((![v46, v192] : Fin 2 → IVec S16 32) a x).toNat < S8x5200.size a := fun v46 v192 k0_hw23 => k0_hw23

def k0_chk24 (v46 : IVec S16 32) (v198 : IVec S16 32) : Prop :=
  (∀ a x, ((![v46, v198] : Fin 2 → IVec S16 32) a x).toNat < S8x5200.size a)
theorem k0_idx24_inb : ∀ (v46 : IVec S16 32) (v198 : IVec S16 32) (k0_hw24 : k0_chk24 v46 v198), ∀ a x, ((![v46, v198] : Fin 2 → IVec S16 32) a x).toNat < S8x5200.size a := fun v46 v198 k0_hw24 => k0_hw24

def k0_chk25 (v46 : IVec S16 32) (v110 : IVec S16 32) : Prop :=
  (∀ a x, ((![v46, v110] : Fin 2 → IVec S16 32) a x).toNat < S8x208.size a)
theorem k0_idx25_inb : ∀ (v46 : IVec S16 32) (v110 : IVec S16 32) (k0_hw25 : k0_chk25 v46 v110), ∀ a x, ((![v46, v110] : Fin 2 → IVec S16 32) a x).toNat < S8x208.size a := fun v46 v110 k0_hw25 => k0_hw25

def k0_chk26 (v46 : IVec S16 32) (v116 : IVec S16 32) : Prop :=
  (∀ a x, ((![v46, v116] : Fin 2 → IVec S16 32) a x).toNat < S8x208.size a)
theorem k0_idx26_inb : ∀ (v46 : IVec S16 32) (v116 : IVec S16 32) (k0_hw26 : k0_chk26 v46 v116), ∀ a x, ((![v46, v116] : Fin 2 → IVec S16 32) a x).toNat < S8x208.size a := fun v46 v116 k0_hw26 => k0_hw26

def k0_chk27 (v46 : IVec S16 32) (v122 : IVec S16 32) : Prop :=
  (∀ a x, ((![v46, v122] : Fin 2 → IVec S16 32) a x).toNat < S8x208.size a)
theorem k0_idx27_inb : ∀ (v46 : IVec S16 32) (v122 : IVec S16 32) (k0_hw27 : k0_chk27 v46 v122), ∀ a x, ((![v46, v122] : Fin 2 → IVec S16 32) a x).toNat < S8x208.size a := fun v46 v122 k0_hw27 => k0_hw27

def k0_chk28 (v46 : IVec S16 32) (v128 : IVec S16 32) : Prop :=
  (∀ a x, ((![v46, v128] : Fin 2 → IVec S16 32) a x).toNat < S8x208.size a)
theorem k0_idx28_inb : ∀ (v46 : IVec S16 32) (v128 : IVec S16 32) (k0_hw28 : k0_chk28 v46 v128), ∀ a x, ((![v46, v128] : Fin 2 → IVec S16 32) a x).toNat < S8x208.size a := fun v46 v128 k0_hw28 => k0_hw28

def k0_chk29 (v46 : IVec S16 32) (v134 : IVec S16 32) : Prop :=
  (∀ a x, ((![v46, v134] : Fin 2 → IVec S16 32) a x).toNat < S8x208.size a)
theorem k0_idx29_inb : ∀ (v46 : IVec S16 32) (v134 : IVec S16 32) (k0_hw29 : k0_chk29 v46 v134), ∀ a x, ((![v46, v134] : Fin 2 → IVec S16 32) a x).toNat < S8x208.size a := fun v46 v134 k0_hw29 => k0_hw29

def k0_chk30 (v46 : IVec S16 32) (v140 : IVec S16 32) : Prop :=
  (∀ a x, ((![v46, v140] : Fin 2 → IVec S16 32) a x).toNat < S8x208.size a)
theorem k0_idx30_inb : ∀ (v46 : IVec S16 32) (v140 : IVec S16 32) (k0_hw30 : k0_chk30 v46 v140), ∀ a x, ((![v46, v140] : Fin 2 → IVec S16 32) a x).toNat < S8x208.size a := fun v46 v140 k0_hw30 => k0_hw30

def k0_chk31 (v46 : IVec S16 32) (v146 : IVec S16 32) : Prop :=
  (∀ a x, ((![v46, v146] : Fin 2 → IVec S16 32) a x).toNat < S8x208.size a)
theorem k0_idx31_inb : ∀ (v46 : IVec S16 32) (v146 : IVec S16 32) (k0_hw31 : k0_chk31 v46 v146), ∀ a x, ((![v46, v146] : Fin 2 → IVec S16 32) a x).toNat < S8x208.size a := fun v46 v146 k0_hw31 => k0_hw31

def k0_chk32 (v46 : IVec S16 32) (v152 : IVec S16 32) : Prop :=
  (∀ a x, ((![v46, v152] : Fin 2 → IVec S16 32) a x).toNat < S8x208.size a)
theorem k0_idx32_inb : ∀ (v46 : IVec S16 32) (v152 : IVec S16 32) (k0_hw32 : k0_chk32 v46 v152), ∀ a x, ((![v46, v152] : Fin 2 → IVec S16 32) a x).toNat < S8x208.size a := fun v46 v152 k0_hw32 => k0_hw32
def k0_off4 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2_i32_6 : BitVec 32 := 2#32
  let c0_i32_3 : BitVec 32 := 0#32
  let c1_i32 : BitVec 32 := 1#32
  let arg14 : BitVec 32 := Scf.iv c0_i32_3 c1_i32 k0_t1
  let v11 : BitVec 32 := Scalar.muli c2_i32_6 arg14
  let c8_i32_14 : BitVec 32 := 8#32
  let v21 : BitVec 32 := Scalar.muli v11 c8_i32_14
  let v22 : BitVec 32 := Scalar.addi v2 v21
  let c0_i32_20 : BitVec 32 := 0#32
  ![v22.toNat, 0]
def k0_cond1 (k0_t1 : Fin k0_t1_loop.trips) : BitVec 1 :=
  let c0_i32_3 : BitVec 32 := 0#32
  let c1_i32 : BitVec 32 := 1#32
  let arg14 : BitVec 32 := Scf.iv c0_i32_3 c1_i32 k0_t1
  let c7_i32 : BitVec 32 := 7#32
  let v28 : BitVec 1 := Scalar.cmpi .slt arg14 c7_i32
  let v29 : BitVec 32 := Scalar.extui v28
  let c0_i32_24 : BitVec 32 := 0#32
  let v30 : BitVec 1 := Scalar.cmpi .ne v29 c0_i32_24
  v30

def k0_off5 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2_i32_6 : BitVec 32 := 2#32
  let c0_i32_3 : BitVec 32 := 0#32
  let c1_i32 : BitVec 32 := 1#32
  let arg14 : BitVec 32 := Scf.iv c0_i32_3 c1_i32 k0_t1
  let v11 : BitVec 32 := Scalar.muli c2_i32_6 arg14
  let c2_i32_40 : BitVec 32 := 2#32
  let v44 : BitVec 32 := Scalar.addi v11 c2_i32_40
  let c8_i32_41 : BitVec 32 := 8#32
  let v45 : BitVec 32 := Scalar.muli v44 c8_i32_41
  let v46 : BitVec 32 := Scalar.addi v2 v45
  let c0_i32_42 : BitVec 32 := 0#32
  ![v46.toNat, 0]
@[reducible] def k0_t5_loop : Scf.Loop 32 :=
  let c0_i32_32 : BitVec 32 := 0#32
  let c8_i32_33 : BitVec 32 := 8#32
  let v39 : BitVec 32 := Scalar.addi c0_i32_32 c8_i32_33
  let c1_i32_34 : BitVec 32 := 1#32
  ⟨c0_i32_32, v39, c1_i32_34⟩
@[reducible] def k0_t6_loop : Scf.Loop 32 :=
  let c0_i32_46 : BitVec 32 := 0#32
  let c25_i32 : BitVec 32 := 25#32
  let v57 : BitVec 32 := Scalar.addi c0_i32_46 c25_i32
  let c1_i32_47 : BitVec 32 := 1#32
  ⟨c0_i32_46, v57, c1_i32_47⟩

def k0_chk33 (v46 : IVec S16 32) (v154 : IVec S16 32) : Prop :=
  (∀ a x, ((![v46, v154] : Fin 2 → IVec S16 32) a x).toNat < S8x5200.size a)
theorem k0_idx33_inb : ∀ (v46 : IVec S16 32) (v154 : IVec S16 32) (k0_hw33 : k0_chk33 v46 v154), ∀ a x, ((![v46, v154] : Fin 2 → IVec S16 32) a x).toNat < S8x5200.size a := fun v46 v154 k0_hw33 => k0_hw33

def k0_chk34 (v46 : IVec S16 32) (v158 : IVec S16 32) : Prop :=
  (∀ a x, ((![v46, v158] : Fin 2 → IVec S16 32) a x).toNat < S8x5200.size a)
theorem k0_idx34_inb : ∀ (v46 : IVec S16 32) (v158 : IVec S16 32) (k0_hw34 : k0_chk34 v46 v158), ∀ a x, ((![v46, v158] : Fin 2 → IVec S16 32) a x).toNat < S8x5200.size a := fun v46 v158 k0_hw34 => k0_hw34

def k0_chk35 (v46 : IVec S16 32) (v162 : IVec S16 32) : Prop :=
  (∀ a x, ((![v46, v162] : Fin 2 → IVec S16 32) a x).toNat < S8x5200.size a)
theorem k0_idx35_inb : ∀ (v46 : IVec S16 32) (v162 : IVec S16 32) (k0_hw35 : k0_chk35 v46 v162), ∀ a x, ((![v46, v162] : Fin 2 → IVec S16 32) a x).toNat < S8x5200.size a := fun v46 v162 k0_hw35 => k0_hw35

def k0_chk36 (v46 : IVec S16 32) (v166 : IVec S16 32) : Prop :=
  (∀ a x, ((![v46, v166] : Fin 2 → IVec S16 32) a x).toNat < S8x5200.size a)
theorem k0_idx36_inb : ∀ (v46 : IVec S16 32) (v166 : IVec S16 32) (k0_hw36 : k0_chk36 v46 v166), ∀ a x, ((![v46, v166] : Fin 2 → IVec S16 32) a x).toNat < S8x5200.size a := fun v46 v166 k0_hw36 => k0_hw36

def k0_chk37 (v46 : IVec S16 32) (v170 : IVec S16 32) : Prop :=
  (∀ a x, ((![v46, v170] : Fin 2 → IVec S16 32) a x).toNat < S8x5200.size a)
theorem k0_idx37_inb : ∀ (v46 : IVec S16 32) (v170 : IVec S16 32) (k0_hw37 : k0_chk37 v46 v170), ∀ a x, ((![v46, v170] : Fin 2 → IVec S16 32) a x).toNat < S8x5200.size a := fun v46 v170 k0_hw37 => k0_hw37

def k0_chk38 (v46 : IVec S16 32) (v174 : IVec S16 32) : Prop :=
  (∀ a x, ((![v46, v174] : Fin 2 → IVec S16 32) a x).toNat < S8x5200.size a)
theorem k0_idx38_inb : ∀ (v46 : IVec S16 32) (v174 : IVec S16 32) (k0_hw38 : k0_chk38 v46 v174), ∀ a x, ((![v46, v174] : Fin 2 → IVec S16 32) a x).toNat < S8x5200.size a := fun v46 v174 k0_hw38 => k0_hw38

def k0_chk39 (v46 : IVec S16 32) (v178 : IVec S16 32) : Prop :=
  (∀ a x, ((![v46, v178] : Fin 2 → IVec S16 32) a x).toNat < S8x5200.size a)
theorem k0_idx39_inb : ∀ (v46 : IVec S16 32) (v178 : IVec S16 32) (k0_hw39 : k0_chk39 v46 v178), ∀ a x, ((![v46, v178] : Fin 2 → IVec S16 32) a x).toNat < S8x5200.size a := fun v46 v178 k0_hw39 => k0_hw39

def k0_chk40 (v46 : IVec S16 32) (v182 : IVec S16 32) : Prop :=
  (∀ a x, ((![v46, v182] : Fin 2 → IVec S16 32) a x).toNat < S8x5200.size a)
theorem k0_idx40_inb : ∀ (v46 : IVec S16 32) (v182 : IVec S16 32) (k0_hw40 : k0_chk40 v46 v182), ∀ a x, ((![v46, v182] : Fin 2 → IVec S16 32) a x).toNat < S8x5200.size a := fun v46 v182 k0_hw40 => k0_hw40

def k0_chk41 (v46 : IVec S16 32) (v62 : IVec S16 32) : Prop :=
  (∀ a x, ((![v46, v62] : Fin 2 → IVec S16 32) a x).toNat < S8x208.size a)
theorem k0_idx41_inb : ∀ (v46 : IVec S16 32) (v62 : IVec S16 32) (k0_hw41 : k0_chk41 v46 v62), ∀ a x, ((![v46, v62] : Fin 2 → IVec S16 32) a x).toNat < S8x208.size a := fun v46 v62 k0_hw41 => k0_hw41

def k0_chk42 (v46 : IVec S16 32) (v66 : IVec S16 32) : Prop :=
  (∀ a x, ((![v46, v66] : Fin 2 → IVec S16 32) a x).toNat < S8x208.size a)
theorem k0_idx42_inb : ∀ (v46 : IVec S16 32) (v66 : IVec S16 32) (k0_hw42 : k0_chk42 v46 v66), ∀ a x, ((![v46, v66] : Fin 2 → IVec S16 32) a x).toNat < S8x208.size a := fun v46 v66 k0_hw42 => k0_hw42

def k0_chk43 (v46 : IVec S16 32) (v70 : IVec S16 32) : Prop :=
  (∀ a x, ((![v46, v70] : Fin 2 → IVec S16 32) a x).toNat < S8x208.size a)
theorem k0_idx43_inb : ∀ (v46 : IVec S16 32) (v70 : IVec S16 32) (k0_hw43 : k0_chk43 v46 v70), ∀ a x, ((![v46, v70] : Fin 2 → IVec S16 32) a x).toNat < S8x208.size a := fun v46 v70 k0_hw43 => k0_hw43

def k0_chk44 (v46 : IVec S16 32) (v74 : IVec S16 32) : Prop :=
  (∀ a x, ((![v46, v74] : Fin 2 → IVec S16 32) a x).toNat < S8x208.size a)
theorem k0_idx44_inb : ∀ (v46 : IVec S16 32) (v74 : IVec S16 32) (k0_hw44 : k0_chk44 v46 v74), ∀ a x, ((![v46, v74] : Fin 2 → IVec S16 32) a x).toNat < S8x208.size a := fun v46 v74 k0_hw44 => k0_hw44

def k0_chk45 (v46 : IVec S16 32) (v78 : IVec S16 32) : Prop :=
  (∀ a x, ((![v46, v78] : Fin 2 → IVec S16 32) a x).toNat < S8x208.size a)
theorem k0_idx45_inb : ∀ (v46 : IVec S16 32) (v78 : IVec S16 32) (k0_hw45 : k0_chk45 v46 v78), ∀ a x, ((![v46, v78] : Fin 2 → IVec S16 32) a x).toNat < S8x208.size a := fun v46 v78 k0_hw45 => k0_hw45

def k0_chk46 (v46 : IVec S16 32) (v82 : IVec S16 32) : Prop :=
  (∀ a x, ((![v46, v82] : Fin 2 → IVec S16 32) a x).toNat < S8x208.size a)
theorem k0_idx46_inb : ∀ (v46 : IVec S16 32) (v82 : IVec S16 32) (k0_hw46 : k0_chk46 v46 v82), ∀ a x, ((![v46, v82] : Fin 2 → IVec S16 32) a x).toNat < S8x208.size a := fun v46 v82 k0_hw46 => k0_hw46

def k0_chk47 (v46 : IVec S16 32) (v86 : IVec S16 32) : Prop :=
  (∀ a x, ((![v46, v86] : Fin 2 → IVec S16 32) a x).toNat < S8x208.size a)
theorem k0_idx47_inb : ∀ (v46 : IVec S16 32) (v86 : IVec S16 32) (k0_hw47 : k0_chk47 v46 v86), ∀ a x, ((![v46, v86] : Fin 2 → IVec S16 32) a x).toNat < S8x208.size a := fun v46 v86 k0_hw47 => k0_hw47

def k0_chk48 (v46 : IVec S16 32) (v90 : IVec S16 32) : Prop :=
  (∀ a x, ((![v46, v90] : Fin 2 → IVec S16 32) a x).toNat < S8x208.size a)
theorem k0_idx48_inb : ∀ (v46 : IVec S16 32) (v90 : IVec S16 32) (k0_hw48 : k0_chk48 v46 v90), ∀ a x, ((![v46, v90] : Fin 2 → IVec S16 32) a x).toNat < S8x208.size a := fun v46 v90 k0_hw48 => k0_hw48
@[reducible] def k0_t7_loop : Scf.Loop 32 :=
  let c0_i32_57 : BitVec 32 := 0#32
  let c25_i32_58 : BitVec 32 := 25#32
  let v101 : BitVec 32 := Scalar.addi c0_i32_57 c25_i32_58
  let c1_i32_59 : BitVec 32 := 1#32
  ⟨c0_i32_57, v101, c1_i32_59⟩

def k0_chk49 (v46 : IVec S16 32) (v156 : IVec S16 32) : Prop :=
  (∀ a x, ((![v46, v156] : Fin 2 → IVec S16 32) a x).toNat < S8x5200.size a)
theorem k0_idx49_inb : ∀ (v46 : IVec S16 32) (v156 : IVec S16 32) (k0_hw49 : k0_chk49 v46 v156), ∀ a x, ((![v46, v156] : Fin 2 → IVec S16 32) a x).toNat < S8x5200.size a := fun v46 v156 k0_hw49 => k0_hw49

def k0_chk50 (v46 : IVec S16 32) (v162 : IVec S16 32) : Prop :=
  (∀ a x, ((![v46, v162] : Fin 2 → IVec S16 32) a x).toNat < S8x5200.size a)
theorem k0_idx50_inb : ∀ (v46 : IVec S16 32) (v162 : IVec S16 32) (k0_hw50 : k0_chk50 v46 v162), ∀ a x, ((![v46, v162] : Fin 2 → IVec S16 32) a x).toNat < S8x5200.size a := fun v46 v162 k0_hw50 => k0_hw50

def k0_chk51 (v46 : IVec S16 32) (v168 : IVec S16 32) : Prop :=
  (∀ a x, ((![v46, v168] : Fin 2 → IVec S16 32) a x).toNat < S8x5200.size a)
theorem k0_idx51_inb : ∀ (v46 : IVec S16 32) (v168 : IVec S16 32) (k0_hw51 : k0_chk51 v46 v168), ∀ a x, ((![v46, v168] : Fin 2 → IVec S16 32) a x).toNat < S8x5200.size a := fun v46 v168 k0_hw51 => k0_hw51

def k0_chk52 (v46 : IVec S16 32) (v174 : IVec S16 32) : Prop :=
  (∀ a x, ((![v46, v174] : Fin 2 → IVec S16 32) a x).toNat < S8x5200.size a)
theorem k0_idx52_inb : ∀ (v46 : IVec S16 32) (v174 : IVec S16 32) (k0_hw52 : k0_chk52 v46 v174), ∀ a x, ((![v46, v174] : Fin 2 → IVec S16 32) a x).toNat < S8x5200.size a := fun v46 v174 k0_hw52 => k0_hw52

def k0_chk53 (v46 : IVec S16 32) (v180 : IVec S16 32) : Prop :=
  (∀ a x, ((![v46, v180] : Fin 2 → IVec S16 32) a x).toNat < S8x5200.size a)
theorem k0_idx53_inb : ∀ (v46 : IVec S16 32) (v180 : IVec S16 32) (k0_hw53 : k0_chk53 v46 v180), ∀ a x, ((![v46, v180] : Fin 2 → IVec S16 32) a x).toNat < S8x5200.size a := fun v46 v180 k0_hw53 => k0_hw53

def k0_chk54 (v46 : IVec S16 32) (v186 : IVec S16 32) : Prop :=
  (∀ a x, ((![v46, v186] : Fin 2 → IVec S16 32) a x).toNat < S8x5200.size a)
theorem k0_idx54_inb : ∀ (v46 : IVec S16 32) (v186 : IVec S16 32) (k0_hw54 : k0_chk54 v46 v186), ∀ a x, ((![v46, v186] : Fin 2 → IVec S16 32) a x).toNat < S8x5200.size a := fun v46 v186 k0_hw54 => k0_hw54

def k0_chk55 (v46 : IVec S16 32) (v192 : IVec S16 32) : Prop :=
  (∀ a x, ((![v46, v192] : Fin 2 → IVec S16 32) a x).toNat < S8x5200.size a)
theorem k0_idx55_inb : ∀ (v46 : IVec S16 32) (v192 : IVec S16 32) (k0_hw55 : k0_chk55 v46 v192), ∀ a x, ((![v46, v192] : Fin 2 → IVec S16 32) a x).toNat < S8x5200.size a := fun v46 v192 k0_hw55 => k0_hw55

def k0_chk56 (v46 : IVec S16 32) (v198 : IVec S16 32) : Prop :=
  (∀ a x, ((![v46, v198] : Fin 2 → IVec S16 32) a x).toNat < S8x5200.size a)
theorem k0_idx56_inb : ∀ (v46 : IVec S16 32) (v198 : IVec S16 32) (k0_hw56 : k0_chk56 v46 v198), ∀ a x, ((![v46, v198] : Fin 2 → IVec S16 32) a x).toNat < S8x5200.size a := fun v46 v198 k0_hw56 => k0_hw56

def k0_chk57 (v46 : IVec S16 32) (v110 : IVec S16 32) : Prop :=
  (∀ a x, ((![v46, v110] : Fin 2 → IVec S16 32) a x).toNat < S8x208.size a)
theorem k0_idx57_inb : ∀ (v46 : IVec S16 32) (v110 : IVec S16 32) (k0_hw57 : k0_chk57 v46 v110), ∀ a x, ((![v46, v110] : Fin 2 → IVec S16 32) a x).toNat < S8x208.size a := fun v46 v110 k0_hw57 => k0_hw57

def k0_chk58 (v46 : IVec S16 32) (v116 : IVec S16 32) : Prop :=
  (∀ a x, ((![v46, v116] : Fin 2 → IVec S16 32) a x).toNat < S8x208.size a)
theorem k0_idx58_inb : ∀ (v46 : IVec S16 32) (v116 : IVec S16 32) (k0_hw58 : k0_chk58 v46 v116), ∀ a x, ((![v46, v116] : Fin 2 → IVec S16 32) a x).toNat < S8x208.size a := fun v46 v116 k0_hw58 => k0_hw58

def k0_chk59 (v46 : IVec S16 32) (v122 : IVec S16 32) : Prop :=
  (∀ a x, ((![v46, v122] : Fin 2 → IVec S16 32) a x).toNat < S8x208.size a)
theorem k0_idx59_inb : ∀ (v46 : IVec S16 32) (v122 : IVec S16 32) (k0_hw59 : k0_chk59 v46 v122), ∀ a x, ((![v46, v122] : Fin 2 → IVec S16 32) a x).toNat < S8x208.size a := fun v46 v122 k0_hw59 => k0_hw59

def k0_chk60 (v46 : IVec S16 32) (v128 : IVec S16 32) : Prop :=
  (∀ a x, ((![v46, v128] : Fin 2 → IVec S16 32) a x).toNat < S8x208.size a)
theorem k0_idx60_inb : ∀ (v46 : IVec S16 32) (v128 : IVec S16 32) (k0_hw60 : k0_chk60 v46 v128), ∀ a x, ((![v46, v128] : Fin 2 → IVec S16 32) a x).toNat < S8x208.size a := fun v46 v128 k0_hw60 => k0_hw60

def k0_chk61 (v46 : IVec S16 32) (v134 : IVec S16 32) : Prop :=
  (∀ a x, ((![v46, v134] : Fin 2 → IVec S16 32) a x).toNat < S8x208.size a)
theorem k0_idx61_inb : ∀ (v46 : IVec S16 32) (v134 : IVec S16 32) (k0_hw61 : k0_chk61 v46 v134), ∀ a x, ((![v46, v134] : Fin 2 → IVec S16 32) a x).toNat < S8x208.size a := fun v46 v134 k0_hw61 => k0_hw61

def k0_chk62 (v46 : IVec S16 32) (v140 : IVec S16 32) : Prop :=
  (∀ a x, ((![v46, v140] : Fin 2 → IVec S16 32) a x).toNat < S8x208.size a)
theorem k0_idx62_inb : ∀ (v46 : IVec S16 32) (v140 : IVec S16 32) (k0_hw62 : k0_chk62 v46 v140), ∀ a x, ((![v46, v140] : Fin 2 → IVec S16 32) a x).toNat < S8x208.size a := fun v46 v140 k0_hw62 => k0_hw62

def k0_chk63 (v46 : IVec S16 32) (v146 : IVec S16 32) : Prop :=
  (∀ a x, ((![v46, v146] : Fin 2 → IVec S16 32) a x).toNat < S8x208.size a)
theorem k0_idx63_inb : ∀ (v46 : IVec S16 32) (v146 : IVec S16 32) (k0_hw63 : k0_chk63 v46 v146), ∀ a x, ((![v46, v146] : Fin 2 → IVec S16 32) a x).toNat < S8x208.size a := fun v46 v146 k0_hw63 => k0_hw63

def k0_chk64 (v46 : IVec S16 32) (v152 : IVec S16 32) : Prop :=
  (∀ a x, ((![v46, v152] : Fin 2 → IVec S16 32) a x).toNat < S8x208.size a)
theorem k0_idx64_inb : ∀ (v46 : IVec S16 32) (v152 : IVec S16 32) (k0_hw64 : k0_chk64 v46 v152), ∀ a x, ((![v46, v152] : Fin 2 → IVec S16 32) a x).toNat < S8x208.size a := fun v46 v152 k0_hw64 => k0_hw64
def k0_off6 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2_i32_6 : BitVec 32 := 2#32
  let c0_i32_3 : BitVec 32 := 0#32
  let c1_i32 : BitVec 32 := 1#32
  let arg14 : BitVec 32 := Scf.iv c0_i32_3 c1_i32 k0_t1
  let v11 : BitVec 32 := Scalar.muli c2_i32_6 arg14
  let c1_i32_29 : BitVec 32 := 1#32
  let v36 : BitVec 32 := Scalar.addi v11 c1_i32_29
  let c8_i32_30 : BitVec 32 := 8#32
  let v37 : BitVec 32 := Scalar.muli v36 c8_i32_30
  let v38 : BitVec 32 := Scalar.addi v2 v37
  let c0_i32_36 : BitVec 32 := 0#32
  ![v38.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x5200 : Shape := ⟨2, ![4096, 5200]⟩
abbrev S26 : Shape := ⟨1, ![26]⟩
abbrev S200x200 : Shape := ⟨2, ![200, 200]⟩
abbrev S_ : Shape := ⟨0, ![]⟩
abbrev S4096x200 : Shape := ⟨2, ![4096, 200]⟩
abbrev S1 : Shape := ⟨1, ![1]⟩
abbrev S4096x8 : Shape := ⟨2, ![4096, 8]⟩
abbrev S4096x128 : Shape := ⟨2, ![4096, 128]⟩
abbrev S4096x80 : Shape := ⟨2, ![4096, 80]⟩
abbrev S4096x208 : Shape := ⟨2, ![4096, 208]⟩

abbrev nBuf : Space → Nat
  | .hbm => 377
  | .vmem => 0
  | .smem => 0
  | _ => 0

abbrev hbmTy0_0 (i : Nat) : BufTy := match i % 128 with
  | 0 => ⟨S4096x5200, .f32⟩
  | 1 => ⟨S26, .f32⟩
  | 2 => ⟨S26, .f32⟩
  | 3 => ⟨S200x200, .i32⟩
  | 4 => ⟨S200x200, .i32⟩
  | 5 => ⟨S_, .i32⟩
  | 6 => ⟨S200x200, .i32⟩
  | 7 => ⟨S200x200, .i32⟩
  | 8 => ⟨S200x200, .i1⟩
  | 9 => ⟨S200x200, .f32⟩
  | 10 => ⟨S4096x200, .f32⟩
  | 11 => ⟨S1, .f32⟩
  | 12 => ⟨S_, .f32⟩
  | 13 => ⟨S4096x200, .f32⟩
  | 14 => ⟨S4096x200, .f32⟩
  | 15 => ⟨S4096x200, .f32⟩
  | 16 => ⟨S1, .f32⟩
  | 17 => ⟨S_, .f32⟩
  | 18 => ⟨S4096x200, .f32⟩
  | 19 => ⟨S4096x200, .f32⟩
  | 20 => ⟨S4096x200, .f32⟩
  | 21 => ⟨S4096x200, .f32⟩
  | 22 => ⟨S4096x200, .f32⟩
  | 23 => ⟨S4096x8, .f32⟩
  | 24 => ⟨S4096x200, .f32⟩
  | 25 => ⟨S1, .f32⟩
  | 26 => ⟨S_, .f32⟩
  | 27 => ⟨S4096x200, .f32⟩
  | 28 => ⟨S4096x200, .f32⟩
  | 29 => ⟨S4096x200, .f32⟩
  | 30 => ⟨S1, .f32⟩
  | 31 => ⟨S_, .f32⟩
  | 32 => ⟨S4096x200, .f32⟩
  | 33 => ⟨S4096x200, .f32⟩
  | 34 => ⟨S4096x200, .f32⟩
  | 35 => ⟨S4096x200, .f32⟩
  | 36 => ⟨S4096x200, .f32⟩
  | 37 => ⟨S4096x8, .f32⟩
  | 38 => ⟨S4096x200, .f32⟩
  | 39 => ⟨S1, .f32⟩
  | 40 => ⟨S_, .f32⟩
  | 41 => ⟨S4096x200, .f32⟩
  | 42 => ⟨S4096x200, .f32⟩
  | 43 => ⟨S4096x200, .f32⟩
  | 44 => ⟨S1, .f32⟩
  | 45 => ⟨S_, .f32⟩
  | 46 => ⟨S4096x200, .f32⟩
  | 47 => ⟨S4096x200, .f32⟩
  | 48 => ⟨S4096x200, .f32⟩
  | 49 => ⟨S4096x200, .f32⟩
  | 50 => ⟨S4096x200, .f32⟩
  | 51 => ⟨S4096x8, .f32⟩
  | 52 => ⟨S4096x200, .f32⟩
  | 53 => ⟨S1, .f32⟩
  | 54 => ⟨S_, .f32⟩
  | 55 => ⟨S4096x200, .f32⟩
  | 56 => ⟨S4096x200, .f32⟩
  | 57 => ⟨S4096x200, .f32⟩
  | 58 => ⟨S1, .f32⟩
  | 59 => ⟨S_, .f32⟩
  | 60 => ⟨S4096x200, .f32⟩
  | 61 => ⟨S4096x200, .f32⟩
  | 62 => ⟨S4096x200, .f32⟩
  | 63 => ⟨S4096x200, .f32⟩
  | 64 => ⟨S4096x200, .f32⟩
  | 65 => ⟨S4096x8, .f32⟩
  | 66 => ⟨S4096x200, .f32⟩
  | 67 => ⟨S1, .f32⟩
  | 68 => ⟨S_, .f32⟩
  | 69 => ⟨S4096x200, .f32⟩
  | 70 => ⟨S4096x200, .f32⟩
  | 71 => ⟨S4096x200, .f32⟩
  | 72 => ⟨S1, .f32⟩
  | 73 => ⟨S_, .f32⟩
  | 74 => ⟨S4096x200, .f32⟩
  | 75 => ⟨S4096x200, .f32⟩
  | 76 => ⟨S4096x200, .f32⟩
  | 77 => ⟨S4096x200, .f32⟩
  | 78 => ⟨S4096x200, .f32⟩
  | 79 => ⟨S4096x8, .f32⟩
  | 80 => ⟨S4096x200, .f32⟩
  | 81 => ⟨S1, .f32⟩
  | 82 => ⟨S_, .f32⟩
  | 83 => ⟨S4096x200, .f32⟩
  | 84 => ⟨S4096x200, .f32⟩
  | 85 => ⟨S4096x200, .f32⟩
  | 86 => ⟨S1, .f32⟩
  | 87 => ⟨S_, .f32⟩
  | 88 => ⟨S4096x200, .f32⟩
  | 89 => ⟨S4096x200, .f32⟩
  | 90 => ⟨S4096x200, .f32⟩
  | 91 => ⟨S4096x200, .f32⟩
  | 92 => ⟨S4096x200, .f32⟩
  | 93 => ⟨S4096x8, .f32⟩
  | 94 => ⟨S4096x200, .f32⟩
  | 95 => ⟨S1, .f32⟩
  | 96 => ⟨S_, .f32⟩
  | 97 => ⟨S4096x200, .f32⟩
  | 98 => ⟨S4096x200, .f32⟩
  | 99 => ⟨S4096x200, .f32⟩
  | 100 => ⟨S1, .f32⟩
  | 101 => ⟨S_, .f32⟩
  | 102 => ⟨S4096x200, .f32⟩
  | 103 => ⟨S4096x200, .f32⟩
  | 104 => ⟨S4096x200, .f32⟩
  | 105 => ⟨S4096x200, .f32⟩
  | 106 => ⟨S4096x200, .f32⟩
  | 107 => ⟨S4096x8, .f32⟩
  | 108 => ⟨S4096x200, .f32⟩
  | 109 => ⟨S1, .f32⟩
  | 110 => ⟨S_, .f32⟩
  | 111 => ⟨S4096x200, .f32⟩
  | 112 => ⟨S4096x200, .f32⟩
  | 113 => ⟨S4096x200, .f32⟩
  | 114 => ⟨S1, .f32⟩
  | 115 => ⟨S_, .f32⟩
  | 116 => ⟨S4096x200, .f32⟩
  | 117 => ⟨S4096x200, .f32⟩
  | 118 => ⟨S4096x200, .f32⟩
  | 119 => ⟨S4096x200, .f32⟩
  | 120 => ⟨S4096x200, .f32⟩
  | 121 => ⟨S4096x8, .f32⟩
  | 122 => ⟨S4096x200, .f32⟩
  | 123 => ⟨S1, .f32⟩
  | 124 => ⟨S_, .f32⟩
  | 125 => ⟨S4096x200, .f32⟩
  | 126 => ⟨S4096x200, .f32⟩
  | 127 => ⟨S4096x200, .f32⟩
  | _ => ⟨S4096x5200, .f32⟩

abbrev hbmTy0_1 (i : Nat) : BufTy := match i % 128 with
  | 0 => ⟨S1, .f32⟩
  | 1 => ⟨S_, .f32⟩
  | 2 => ⟨S4096x200, .f32⟩
  | 3 => ⟨S4096x200, .f32⟩
  | 4 => ⟨S4096x200, .f32⟩
  | 5 => ⟨S4096x200, .f32⟩
  | 6 => ⟨S4096x200, .f32⟩
  | 7 => ⟨S4096x8, .f32⟩
  | 8 => ⟨S4096x200, .f32⟩
  | 9 => ⟨S1, .f32⟩
  | 10 => ⟨S_, .f32⟩
  | 11 => ⟨S4096x200, .f32⟩
  | 12 => ⟨S4096x200, .f32⟩
  | 13 => ⟨S4096x200, .f32⟩
  | 14 => ⟨S1, .f32⟩
  | 15 => ⟨S_, .f32⟩
  | 16 => ⟨S4096x200, .f32⟩
  | 17 => ⟨S4096x200, .f32⟩
  | 18 => ⟨S4096x200, .f32⟩
  | 19 => ⟨S4096x200, .f32⟩
  | 20 => ⟨S4096x200, .f32⟩
  | 21 => ⟨S4096x8, .f32⟩
  | 22 => ⟨S4096x200, .f32⟩
  | 23 => ⟨S1, .f32⟩
  | 24 => ⟨S_, .f32⟩
  | 25 => ⟨S4096x200, .f32⟩
  | 26 => ⟨S4096x200, .f32⟩
  | 27 => ⟨S4096x200, .f32⟩
  | 28 => ⟨S1, .f32⟩
  | 29 => ⟨S_, .f32⟩
  | 30 => ⟨S4096x200, .f32⟩
  | 31 => ⟨S4096x200, .f32⟩
  | 32 => ⟨S4096x200, .f32⟩
  | 33 => ⟨S4096x200, .f32⟩
  | 34 => ⟨S4096x200, .f32⟩
  | 35 => ⟨S4096x8, .f32⟩
  | 36 => ⟨S4096x200, .f32⟩
  | 37 => ⟨S1, .f32⟩
  | 38 => ⟨S_, .f32⟩
  | 39 => ⟨S4096x200, .f32⟩
  | 40 => ⟨S4096x200, .f32⟩
  | 41 => ⟨S4096x200, .f32⟩
  | 42 => ⟨S1, .f32⟩
  | 43 => ⟨S_, .f32⟩
  | 44 => ⟨S4096x200, .f32⟩
  | 45 => ⟨S4096x200, .f32⟩
  | 46 => ⟨S4096x200, .f32⟩
  | 47 => ⟨S4096x200, .f32⟩
  | 48 => ⟨S4096x200, .f32⟩
  | 49 => ⟨S4096x8, .f32⟩
  | 50 => ⟨S4096x200, .f32⟩
  | 51 => ⟨S1, .f32⟩
  | 52 => ⟨S_, .f32⟩
  | 53 => ⟨S4096x200, .f32⟩
  | 54 => ⟨S4096x200, .f32⟩
  | 55 => ⟨S4096x200, .f32⟩
  | 56 => ⟨S1, .f32⟩
  | 57 => ⟨S_, .f32⟩
  | 58 => ⟨S4096x200, .f32⟩
  | 59 => ⟨S4096x200, .f32⟩
  | 60 => ⟨S4096x200, .f32⟩
  | 61 => ⟨S4096x200, .f32⟩
  | 62 => ⟨S4096x200, .f32⟩
  | 63 => ⟨S4096x8, .f32⟩
  | 64 => ⟨S4096x200, .f32⟩
  | 65 => ⟨S1, .f32⟩
  | 66 => ⟨S_, .f32⟩
  | 67 => ⟨S4096x200, .f32⟩
  | 68 => ⟨S4096x200, .f32⟩
  | 69 => ⟨S4096x200, .f32⟩
  | 70 => ⟨S1, .f32⟩
  | 71 => ⟨S_, .f32⟩
  | 72 => ⟨S4096x200, .f32⟩
  | 73 => ⟨S4096x200, .f32⟩
  | 74 => ⟨S4096x200, .f32⟩
  | 75 => ⟨S4096x200, .f32⟩
  | 76 => ⟨S4096x200, .f32⟩
  | 77 => ⟨S4096x8, .f32⟩
  | 78 => ⟨S4096x200, .f32⟩
  | 79 => ⟨S1, .f32⟩
  | 80 => ⟨S_, .f32⟩
  | 81 => ⟨S4096x200, .f32⟩
  | 82 => ⟨S4096x200, .f32⟩
  | 83 => ⟨S4096x200, .f32⟩
  | 84 => ⟨S1, .f32⟩
  | 85 => ⟨S_, .f32⟩
  | 86 => ⟨S4096x200, .f32⟩
  | 87 => ⟨S4096x200, .f32⟩
  | 88 => ⟨S4096x200, .f32⟩
  | 89 => ⟨S4096x200, .f32⟩
  | 90 => ⟨S4096x200, .f32⟩
  | 91 => ⟨S4096x8, .f32⟩
  | 92 => ⟨S4096x200, .f32⟩
  | 93 => ⟨S1, .f32⟩
  | 94 => ⟨S_, .f32⟩
  | 95 => ⟨S4096x200, .f32⟩
  | 96 => ⟨S4096x200, .f32⟩
  | 97 => ⟨S4096x200, .f32⟩
  | 98 => ⟨S1, .f32⟩
  | 99 => ⟨S_, .f32⟩
  | 100 => ⟨S4096x200, .f32⟩
  | 101 => ⟨S4096x200, .f32⟩
  | 102 => ⟨S4096x200, .f32⟩
  | 103 => ⟨S4096x200, .f32⟩
  | 104 => ⟨S4096x200, .f32⟩
  | 105 => ⟨S4096x8, .f32⟩
  | 106 => ⟨S4096x200, .f32⟩
  | 107 => ⟨S1, .f32⟩
  | 108 => ⟨S_, .f32⟩
  | 109 => ⟨S4096x200, .f32⟩
  | 110 => ⟨S4096x200, .f32⟩
  | 111 => ⟨S4096x200, .f32⟩
  | 112 => ⟨S1, .f32⟩
  | 113 => ⟨S_, .f32⟩
  | 114 => ⟨S4096x200, .f32⟩
  | 115 => ⟨S4096x200, .f32⟩
  | 116 => ⟨S4096x200, .f32⟩
  | 117 => ⟨S4096x200, .f32⟩
  | 118 => ⟨S4096x200, .f32⟩
  | 119 => ⟨S4096x8, .f32⟩
  | 120 => ⟨S4096x200, .f32⟩
  | 121 => ⟨S1, .f32⟩
  | 122 => ⟨S_, .f32⟩
  | 123 => ⟨S4096x200, .f32⟩
  | 124 => ⟨S4096x200, .f32⟩
  | 125 => ⟨S4096x200, .f32⟩
  | 126 => ⟨S1, .f32⟩
  | 127 => ⟨S_, .f32⟩
  | _ => ⟨S4096x5200, .f32⟩

abbrev hbmTy0_2 (i : Nat) : BufTy := match i % 128 with
  | 0 => ⟨S4096x200, .f32⟩
  | 1 => ⟨S4096x200, .f32⟩
  | 2 => ⟨S4096x200, .f32⟩
  | 3 => ⟨S4096x200, .f32⟩
  | 4 => ⟨S4096x200, .f32⟩
  | 5 => ⟨S4096x8, .f32⟩
  | 6 => ⟨S4096x200, .f32⟩
  | 7 => ⟨S1, .f32⟩
  | 8 => ⟨S_, .f32⟩
  | 9 => ⟨S4096x200, .f32⟩
  | 10 => ⟨S4096x200, .f32⟩
  | 11 => ⟨S4096x200, .f32⟩
  | 12 => ⟨S1, .f32⟩
  | 13 => ⟨S_, .f32⟩
  | 14 => ⟨S4096x200, .f32⟩
  | 15 => ⟨S4096x200, .f32⟩
  | 16 => ⟨S4096x200, .f32⟩
  | 17 => ⟨S4096x200, .f32⟩
  | 18 => ⟨S4096x200, .f32⟩
  | 19 => ⟨S4096x8, .f32⟩
  | 20 => ⟨S4096x200, .f32⟩
  | 21 => ⟨S1, .f32⟩
  | 22 => ⟨S_, .f32⟩
  | 23 => ⟨S4096x200, .f32⟩
  | 24 => ⟨S4096x200, .f32⟩
  | 25 => ⟨S4096x200, .f32⟩
  | 26 => ⟨S1, .f32⟩
  | 27 => ⟨S_, .f32⟩
  | 28 => ⟨S4096x200, .f32⟩
  | 29 => ⟨S4096x200, .f32⟩
  | 30 => ⟨S4096x200, .f32⟩
  | 31 => ⟨S4096x200, .f32⟩
  | 32 => ⟨S4096x200, .f32⟩
  | 33 => ⟨S4096x8, .f32⟩
  | 34 => ⟨S4096x200, .f32⟩
  | 35 => ⟨S1, .f32⟩
  | 36 => ⟨S_, .f32⟩
  | 37 => ⟨S4096x200, .f32⟩
  | 38 => ⟨S4096x200, .f32⟩
  | 39 => ⟨S4096x200, .f32⟩
  | 40 => ⟨S1, .f32⟩
  | 41 => ⟨S_, .f32⟩
  | 42 => ⟨S4096x200, .f32⟩
  | 43 => ⟨S4096x200, .f32⟩
  | 44 => ⟨S4096x200, .f32⟩
  | 45 => ⟨S4096x200, .f32⟩
  | 46 => ⟨S4096x200, .f32⟩
  | 47 => ⟨S4096x8, .f32⟩
  | 48 => ⟨S4096x200, .f32⟩
  | 49 => ⟨S1, .f32⟩
  | 50 => ⟨S_, .f32⟩
  | 51 => ⟨S4096x200, .f32⟩
  | 52 => ⟨S4096x200, .f32⟩
  | 53 => ⟨S4096x200, .f32⟩
  | 54 => ⟨S1, .f32⟩
  | 55 => ⟨S_, .f32⟩
  | 56 => ⟨S4096x200, .f32⟩
  | 57 => ⟨S4096x200, .f32⟩
  | 58 => ⟨S4096x200, .f32⟩
  | 59 => ⟨S4096x200, .f32⟩
  | 60 => ⟨S4096x200, .f32⟩
  | 61 => ⟨S4096x8, .f32⟩
  | 62 => ⟨S4096x200, .f32⟩
  | 63 => ⟨S1, .f32⟩
  | 64 => ⟨S_, .f32⟩
  | 65 => ⟨S4096x200, .f32⟩
  | 66 => ⟨S4096x200, .f32⟩
  | 67 => ⟨S4096x200, .f32⟩
  | 68 => ⟨S1, .f32⟩
  | 69 => ⟨S_, .f32⟩
  | 70 => ⟨S4096x200, .f32⟩
  | 71 => ⟨S4096x200, .f32⟩
  | 72 => ⟨S4096x200, .f32⟩
  | 73 => ⟨S4096x200, .f32⟩
  | 74 => ⟨S4096x200, .f32⟩
  | 75 => ⟨S4096x8, .f32⟩
  | 76 => ⟨S4096x200, .f32⟩
  | 77 => ⟨S1, .f32⟩
  | 78 => ⟨S_, .f32⟩
  | 79 => ⟨S4096x200, .f32⟩
  | 80 => ⟨S4096x200, .f32⟩
  | 81 => ⟨S4096x200, .f32⟩
  | 82 => ⟨S1, .f32⟩
  | 83 => ⟨S_, .f32⟩
  | 84 => ⟨S4096x200, .f32⟩
  | 85 => ⟨S4096x200, .f32⟩
  | 86 => ⟨S4096x200, .f32⟩
  | 87 => ⟨S4096x200, .f32⟩
  | 88 => ⟨S4096x200, .f32⟩
  | 89 => ⟨S4096x8, .f32⟩
  | 90 => ⟨S4096x200, .f32⟩
  | 91 => ⟨S1, .f32⟩
  | 92 => ⟨S_, .f32⟩
  | 93 => ⟨S4096x200, .f32⟩
  | 94 => ⟨S4096x200, .f32⟩
  | 95 => ⟨S4096x200, .f32⟩
  | 96 => ⟨S1, .f32⟩
  | 97 => ⟨S_, .f32⟩
  | 98 => ⟨S4096x200, .f32⟩
  | 99 => ⟨S4096x200, .f32⟩
  | 100 => ⟨S4096x200, .f32⟩
  | 101 => ⟨S4096x200, .f32⟩
  | 102 => ⟨S4096x200, .f32⟩
  | 103 => ⟨S4096x8, .f32⟩
  | 104 => ⟨S4096x200, .f32⟩
  | 105 => ⟨S1, .f32⟩
  | 106 => ⟨S_, .f32⟩
  | 107 => ⟨S4096x200, .f32⟩
  | 108 => ⟨S4096x200, .f32⟩
  | 109 => ⟨S4096x200, .f32⟩
  | 110 => ⟨S1, .f32⟩
  | 111 => ⟨S_, .f32⟩
  | 112 => ⟨S4096x200, .f32⟩
  | 113 => ⟨S4096x200, .f32⟩
  | 114 => ⟨S4096x200, .f32⟩
  | 115 => ⟨S4096x200, .f32⟩
  | 116 => ⟨S4096x200, .f32⟩
  | 117 => ⟨S4096x8, .f32⟩
  | 118 => ⟨S4096x128, .f32⟩
  | 119 => ⟨S4096x80, .f32⟩
  | 120 => ⟨S4096x208, .f32⟩
  | _ => ⟨S4096x5200, .f32⟩

abbrev hbmTy (i : Nat) : BufTy := match i / 128 with
  | 0 => hbmTy0_0 i
  | 1 => hbmTy0_1 i
  | 2 => hbmTy0_2 i
  | _ => ⟨S4096x5200, .f32⟩

abbrev bufTy : (tb : Table) → Fin (tcTables nBuf tb) → BufTy
  | .hbm, ⟨i, _⟩ => hbmTy i
  | _, _ => ⟨S4096x5200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_v60 : Ref sig .tc := ⟨.hbm, 64, rfl⟩
abbrev main_v61 : Ref sig .tc := ⟨.hbm, 65, rfl⟩
abbrev main_v62 : Ref sig .tc := ⟨.hbm, 66, rfl⟩
abbrev main_v63 : Ref sig .tc := ⟨.hbm, 67, rfl⟩
abbrev main_v64 : Ref sig .tc := ⟨.hbm, 68, rfl⟩
abbrev main_v65 : Ref sig .tc := ⟨.hbm, 69, rfl⟩
abbrev main_v66 : Ref sig .tc := ⟨.hbm, 70, rfl⟩
abbrev main_v67 : Ref sig .tc := ⟨.hbm, 71, rfl⟩
abbrev main_v68 : Ref sig .tc := ⟨.hbm, 72, rfl⟩
abbrev main_v69 : Ref sig .tc := ⟨.hbm, 73, rfl⟩
abbrev main_v70 : Ref sig .tc := ⟨.hbm, 74, rfl⟩
abbrev main_v71 : Ref sig .tc := ⟨.hbm, 75, rfl⟩
abbrev main_v72 : Ref sig .tc := ⟨.hbm, 76, rfl⟩
abbrev main_v73 : Ref sig .tc := ⟨.hbm, 77, rfl⟩
abbrev main_v74 : Ref sig .tc := ⟨.hbm, 78, rfl⟩
abbrev main_v75 : Ref sig .tc := ⟨.hbm, 79, rfl⟩
abbrev main_v76 : Ref sig .tc := ⟨.hbm, 80, rfl⟩
abbrev main_v77 : Ref sig .tc := ⟨.hbm, 81, rfl⟩
abbrev main_v78 : Ref sig .tc := ⟨.hbm, 82, rfl⟩
abbrev main_v79 : Ref sig .tc := ⟨.hbm, 83, rfl⟩
abbrev main_v80 : Ref sig .tc := ⟨.hbm, 84, rfl⟩
abbrev main_v81 : Ref sig .tc := ⟨.hbm, 85, rfl⟩
abbrev main_v82 : Ref sig .tc := ⟨.hbm, 86, rfl⟩
abbrev main_v83 : Ref sig .tc := ⟨.hbm, 87, rfl⟩
abbrev main_v84 : Ref sig .tc := ⟨.hbm, 88, rfl⟩
abbrev main_v85 : Ref sig .tc := ⟨.hbm, 89, rfl⟩
abbrev main_v86 : Ref sig .tc := ⟨.hbm, 90, rfl⟩
abbrev main_v87 : Ref sig .tc := ⟨.hbm, 91, rfl⟩
abbrev main_v88 : Ref sig .tc := ⟨.hbm, 92, rfl⟩
abbrev main_v89 : Ref sig .tc := ⟨.hbm, 93, rfl⟩
abbrev main_v90 : Ref sig .tc := ⟨.hbm, 94, rfl⟩
abbrev main_v91 : Ref sig .tc := ⟨.hbm, 95, rfl⟩
abbrev main_v92 : Ref sig .tc := ⟨.hbm, 96, rfl⟩
abbrev main_v93 : Ref sig .tc := ⟨.hbm, 97, rfl⟩
abbrev main_v94 : Ref sig .tc := ⟨.hbm, 98, rfl⟩
abbrev main_v95 : Ref sig .tc := ⟨.hbm, 99, rfl⟩
abbrev main_v96 : Ref sig .tc := ⟨.hbm, 100, rfl⟩
abbrev main_v97 : Ref sig .tc := ⟨.hbm, 101, rfl⟩
abbrev main_v98 : Ref sig .tc := ⟨.hbm, 102, rfl⟩
abbrev main_v99 : Ref sig .tc := ⟨.hbm, 103, rfl⟩
abbrev main_v100 : Ref sig .tc := ⟨.hbm, 104, rfl⟩
abbrev main_v101 : Ref sig .tc := ⟨.hbm, 105, rfl⟩
abbrev main_v102 : Ref sig .tc := ⟨.hbm, 106, rfl⟩
abbrev main_v103 : Ref sig .tc := ⟨.hbm, 107, rfl⟩
abbrev main_v104 : Ref sig .tc := ⟨.hbm, 108, rfl⟩
abbrev main_v105 : Ref sig .tc := ⟨.hbm, 109, rfl⟩
abbrev main_v106 : Ref sig .tc := ⟨.hbm, 110, rfl⟩
abbrev main_v107 : Ref sig .tc := ⟨.hbm, 111, rfl⟩
abbrev main_v108 : Ref sig .tc := ⟨.hbm, 112, rfl⟩
abbrev main_v109 : Ref sig .tc := ⟨.hbm, 113, rfl⟩
abbrev main_v110 : Ref sig .tc := ⟨.hbm, 114, rfl⟩
abbrev main_v111 : Ref sig .tc := ⟨.hbm, 115, rfl⟩
abbrev main_v112 : Ref sig .tc := ⟨.hbm, 116, rfl⟩
abbrev main_v113 : Ref sig .tc := ⟨.hbm, 117, rfl⟩
abbrev main_v114 : Ref sig .tc := ⟨.hbm, 118, rfl⟩
abbrev main_v115 : Ref sig .tc := ⟨.hbm, 119, rfl⟩
abbrev main_v116 : Ref sig .tc := ⟨.hbm, 120, rfl⟩
abbrev main_v117 : Ref sig .tc := ⟨.hbm, 121, rfl⟩
abbrev main_v118 : Ref sig .tc := ⟨.hbm, 122, rfl⟩
abbrev main_v119 : Ref sig .tc := ⟨.hbm, 123, rfl⟩
abbrev main_v120 : Ref sig .tc := ⟨.hbm, 124, rfl⟩
abbrev main_v121 : Ref sig .tc := ⟨.hbm, 125, rfl⟩
abbrev main_v122 : Ref sig .tc := ⟨.hbm, 126, rfl⟩
abbrev main_v123 : Ref sig .tc := ⟨.hbm, 127, rfl⟩
abbrev main_v124 : Ref sig .tc := ⟨.hbm, 128, rfl⟩
abbrev main_v125 : Ref sig .tc := ⟨.hbm, 129, rfl⟩
abbrev main_v126 : Ref sig .tc := ⟨.hbm, 130, rfl⟩
abbrev main_v127 : Ref sig .tc := ⟨.hbm, 131, rfl⟩
abbrev main_v128 : Ref sig .tc := ⟨.hbm, 132, rfl⟩
abbrev main_v129 : Ref sig .tc := ⟨.hbm, 133, rfl⟩
abbrev main_v130 : Ref sig .tc := ⟨.hbm, 134, rfl⟩
abbrev main_v131 : Ref sig .tc := ⟨.hbm, 135, rfl⟩
abbrev main_v132 : Ref sig .tc := ⟨.hbm, 136, rfl⟩
abbrev main_v133 : Ref sig .tc := ⟨.hbm, 137, rfl⟩
abbrev main_v134 : Ref sig .tc := ⟨.hbm, 138, rfl⟩
abbrev main_v135 : Ref sig .tc := ⟨.hbm, 139, rfl⟩
abbrev main_v136 : Ref sig .tc := ⟨.hbm, 140, rfl⟩
abbrev main_v137 : Ref sig .tc := ⟨.hbm, 141, rfl⟩
abbrev main_v138 : Ref sig .tc := ⟨.hbm, 142, rfl⟩
abbrev main_v139 : Ref sig .tc := ⟨.hbm, 143, rfl⟩
abbrev main_v140 : Ref sig .tc := ⟨.hbm, 144, rfl⟩
abbrev main_v141 : Ref sig .tc := ⟨.hbm, 145, rfl⟩
abbrev main_v142 : Ref sig .tc := ⟨.hbm, 146, rfl⟩
abbrev main_v143 : Ref sig .tc := ⟨.hbm, 147, rfl⟩
abbrev main_v144 : Ref sig .tc := ⟨.hbm, 148, rfl⟩
abbrev main_v145 : Ref sig .tc := ⟨.hbm, 149, rfl⟩
abbrev main_v146 : Ref sig .tc := ⟨.hbm, 150, rfl⟩
abbrev main_v147 : Ref sig .tc := ⟨.hbm, 151, rfl⟩
abbrev main_v148 : Ref sig .tc := ⟨.hbm, 152, rfl⟩
abbrev main_v149 : Ref sig .tc := ⟨.hbm, 153, rfl⟩
abbrev main_v150 : Ref sig .tc := ⟨.hbm, 154, rfl⟩
abbrev main_v151 : Ref sig .tc := ⟨.hbm, 155, rfl⟩
abbrev main_v152 : Ref sig .tc := ⟨.hbm, 156, rfl⟩
abbrev main_v153 : Ref sig .tc := ⟨.hbm, 157, rfl⟩
abbrev main_v154 : Ref sig .tc := ⟨.hbm, 158, rfl⟩
abbrev main_v155 : Ref sig .tc := ⟨.hbm, 159, rfl⟩
abbrev main_v156 : Ref sig .tc := ⟨.hbm, 160, rfl⟩
abbrev main_v157 : Ref sig .tc := ⟨.hbm, 161, rfl⟩
abbrev main_v158 : Ref sig .tc := ⟨.hbm, 162, rfl⟩
abbrev main_v159 : Ref sig .tc := ⟨.hbm, 163, rfl⟩
abbrev main_v160 : Ref sig .tc := ⟨.hbm, 164, rfl⟩
abbrev main_v161 : Ref sig .tc := ⟨.hbm, 165, rfl⟩
abbrev main_v162 : Ref sig .tc := ⟨.hbm, 166, rfl⟩
abbrev main_v163 : Ref sig .tc := ⟨.hbm, 167, rfl⟩
abbrev main_v164 : Ref sig .tc := ⟨.hbm, 168, rfl⟩
abbrev main_v165 : Ref sig .tc := ⟨.hbm, 169, rfl⟩
abbrev main_v166 : Ref sig .tc := ⟨.hbm, 170, rfl⟩
abbrev main_v167 : Ref sig .tc := ⟨.hbm, 171, rfl⟩
abbrev main_v168 : Ref sig .tc := ⟨.hbm, 172, rfl⟩
abbrev main_v169 : Ref sig .tc := ⟨.hbm, 173, rfl⟩
abbrev main_v170 : Ref sig .tc := ⟨.hbm, 174, rfl⟩
abbrev main_v171 : Ref sig .tc := ⟨.hbm, 175, rfl⟩
abbrev main_v172 : Ref sig .tc := ⟨.hbm, 176, rfl⟩
abbrev main_v173 : Ref sig .tc := ⟨.hbm, 177, rfl⟩
abbrev main_v174 : Ref sig .tc := ⟨.hbm, 178, rfl⟩
abbrev main_v175 : Ref sig .tc := ⟨.hbm, 179, rfl⟩
abbrev main_v176 : Ref sig .tc := ⟨.hbm, 180, rfl⟩
abbrev main_v177 : Ref sig .tc := ⟨.hbm, 181, rfl⟩
abbrev main_v178 : Ref sig .tc := ⟨.hbm, 182, rfl⟩
abbrev main_v179 : Ref sig .tc := ⟨.hbm, 183, rfl⟩
abbrev main_v180 : Ref sig .tc := ⟨.hbm, 184, rfl⟩
abbrev main_v181 : Ref sig .tc := ⟨.hbm, 185, rfl⟩
abbrev main_v182 : Ref sig .tc := ⟨.hbm, 186, rfl⟩
abbrev main_v183 : Ref sig .tc := ⟨.hbm, 187, rfl⟩
abbrev main_v184 : Ref sig .tc := ⟨.hbm, 188, rfl⟩
abbrev main_v185 : Ref sig .tc := ⟨.hbm, 189, rfl⟩
abbrev main_v186 : Ref sig .tc := ⟨.hbm, 190, rfl⟩
abbrev main_v187 : Ref sig .tc := ⟨.hbm, 191, rfl⟩
abbrev main_v188 : Ref sig .tc := ⟨.hbm, 192, rfl⟩
abbrev main_v189 : Ref sig .tc := ⟨.hbm, 193, rfl⟩
abbrev main_v190 : Ref sig .tc := ⟨.hbm, 194, rfl⟩
abbrev main_v191 : Ref sig .tc := ⟨.hbm, 195, rfl⟩
abbrev main_v192 : Ref sig .tc := ⟨.hbm, 196, rfl⟩
abbrev main_v193 : Ref sig .tc := ⟨.hbm, 197, rfl⟩
abbrev main_v194 : Ref sig .tc := ⟨.hbm, 198, rfl⟩
abbrev main_v195 : Ref sig .tc := ⟨.hbm, 199, rfl⟩
abbrev main_v196 : Ref sig .tc := ⟨.hbm, 200, rfl⟩
abbrev main_v197 : Ref sig .tc := ⟨.hbm, 201, rfl⟩
abbrev main_v198 : Ref sig .tc := ⟨.hbm, 202, rfl⟩
abbrev main_v199 : Ref sig .tc := ⟨.hbm, 203, rfl⟩
abbrev main_v200 : Ref sig .tc := ⟨.hbm, 204, rfl⟩
abbrev main_v201 : Ref sig .tc := ⟨.hbm, 205, rfl⟩
abbrev main_v202 : Ref sig .tc := ⟨.hbm, 206, rfl⟩
abbrev main_v203 : Ref sig .tc := ⟨.hbm, 207, rfl⟩
abbrev main_v204 : Ref sig .tc := ⟨.hbm, 208, rfl⟩
abbrev main_v205 : Ref sig .tc := ⟨.hbm, 209, rfl⟩
abbrev main_v206 : Ref sig .tc := ⟨.hbm, 210, rfl⟩
abbrev main_v207 : Ref sig .tc := ⟨.hbm, 211, rfl⟩
abbrev main_v208 : Ref sig .tc := ⟨.hbm, 212, rfl⟩
abbrev main_v209 : Ref sig .tc := ⟨.hbm, 213, rfl⟩
abbrev main_v210 : Ref sig .tc := ⟨.hbm, 214, rfl⟩
abbrev main_v211 : Ref sig .tc := ⟨.hbm, 215, rfl⟩
abbrev main_v212 : Ref sig .tc := ⟨.hbm, 216, rfl⟩
abbrev main_v213 : Ref sig .tc := ⟨.hbm, 217, rfl⟩
abbrev main_v214 : Ref sig .tc := ⟨.hbm, 218, rfl⟩
abbrev main_v215 : Ref sig .tc := ⟨.hbm, 219, rfl⟩
abbrev main_v216 : Ref sig .tc := ⟨.hbm, 220, rfl⟩
abbrev main_v217 : Ref sig .tc := ⟨.hbm, 221, rfl⟩
abbrev main_v218 : Ref sig .tc := ⟨.hbm, 222, rfl⟩
abbrev main_v219 : Ref sig .tc := ⟨.hbm, 223, rfl⟩
abbrev main_v220 : Ref sig .tc := ⟨.hbm, 224, rfl⟩
abbrev main_v221 : Ref sig .tc := ⟨.hbm, 225, rfl⟩
abbrev main_v222 : Ref sig .tc := ⟨.hbm, 226, rfl⟩
abbrev main_v223 : Ref sig .tc := ⟨.hbm, 227, rfl⟩
abbrev main_v224 : Ref sig .tc := ⟨.hbm, 228, rfl⟩
abbrev main_v225 : Ref sig .tc := ⟨.hbm, 229, rfl⟩
abbrev main_v226 : Ref sig .tc := ⟨.hbm, 230, rfl⟩
abbrev main_v227 : Ref sig .tc := ⟨.hbm, 231, rfl⟩
abbrev main_v228 : Ref sig .tc := ⟨.hbm, 232, rfl⟩
abbrev main_v229 : Ref sig .tc := ⟨.hbm, 233, rfl⟩
abbrev main_v230 : Ref sig .tc := ⟨.hbm, 234, rfl⟩
abbrev main_v231 : Ref sig .tc := ⟨.hbm, 235, rfl⟩
abbrev main_v232 : Ref sig .tc := ⟨.hbm, 236, rfl⟩
abbrev main_v233 : Ref sig .tc := ⟨.hbm, 237, rfl⟩
abbrev main_v234 : Ref sig .tc := ⟨.hbm, 238, rfl⟩
abbrev main_v235 : Ref sig .tc := ⟨.hbm, 239, rfl⟩
abbrev main_v236 : Ref sig .tc := ⟨.hbm, 240, rfl⟩
abbrev main_v237 : Ref sig .tc := ⟨.hbm, 241, rfl⟩
abbrev main_v238 : Ref sig .tc := ⟨.hbm, 242, rfl⟩
abbrev main_v239 : Ref sig .tc := ⟨.hbm, 243, rfl⟩
abbrev main_v240 : Ref sig .tc := ⟨.hbm, 244, rfl⟩
abbrev main_v241 : Ref sig .tc := ⟨.hbm, 245, rfl⟩
abbrev main_v242 : Ref sig .tc := ⟨.hbm, 246, rfl⟩
abbrev main_v243 : Ref sig .tc := ⟨.hbm, 247, rfl⟩
abbrev main_v244 : Ref sig .tc := ⟨.hbm, 248, rfl⟩
abbrev main_v245 : Ref sig .tc := ⟨.hbm, 249, rfl⟩
abbrev main_v246 : Ref sig .tc := ⟨.hbm, 250, rfl⟩
abbrev main_v247 : Ref sig .tc := ⟨.hbm, 251, rfl⟩
abbrev main_v248 : Ref sig .tc := ⟨.hbm, 252, rfl⟩
abbrev main_v249 : Ref sig .tc := ⟨.hbm, 253, rfl⟩
abbrev main_v250 : Ref sig .tc := ⟨.hbm, 254, rfl⟩
abbrev main_v251 : Ref sig .tc := ⟨.hbm, 255, rfl⟩
abbrev main_v252 : Ref sig .tc := ⟨.hbm, 256, rfl⟩
abbrev main_v253 : Ref sig .tc := ⟨.hbm, 257, rfl⟩
abbrev main_v254 : Ref sig .tc := ⟨.hbm, 258, rfl⟩
abbrev main_v255 : Ref sig .tc := ⟨.hbm, 259, rfl⟩
abbrev main_v256 : Ref sig .tc := ⟨.hbm, 260, rfl⟩
abbrev main_v257 : Ref sig .tc := ⟨.hbm, 261, rfl⟩
abbrev main_v258 : Ref sig .tc := ⟨.hbm, 262, rfl⟩
abbrev main_v259 : Ref sig .tc := ⟨.hbm, 263, rfl⟩
abbrev main_v260 : Ref sig .tc := ⟨.hbm, 264, rfl⟩
abbrev main_v261 : Ref sig .tc := ⟨.hbm, 265, rfl⟩
abbrev main_v262 : Ref sig .tc := ⟨.hbm, 266, rfl⟩
abbrev main_v263 : Ref sig .tc := ⟨.hbm, 267, rfl⟩
abbrev main_v264 : Ref sig .tc := ⟨.hbm, 268, rfl⟩
abbrev main_v265 : Ref sig .tc := ⟨.hbm, 269, rfl⟩
abbrev main_v266 : Ref sig .tc := ⟨.hbm, 270, rfl⟩
abbrev main_v267 : Ref sig .tc := ⟨.hbm, 271, rfl⟩
abbrev main_v268 : Ref sig .tc := ⟨.hbm, 272, rfl⟩
abbrev main_v269 : Ref sig .tc := ⟨.hbm, 273, rfl⟩
abbrev main_v270 : Ref sig .tc := ⟨.hbm, 274, rfl⟩
abbrev main_v271 : Ref sig .tc := ⟨.hbm, 275, rfl⟩
abbrev main_v272 : Ref sig .tc := ⟨.hbm, 276, rfl⟩
abbrev main_v273 : Ref sig .tc := ⟨.hbm, 277, rfl⟩
abbrev main_v274 : Ref sig .tc := ⟨.hbm, 278, rfl⟩
abbrev main_v275 : Ref sig .tc := ⟨.hbm, 279, rfl⟩
abbrev main_v276 : Ref sig .tc := ⟨.hbm, 280, rfl⟩
abbrev main_v277 : Ref sig .tc := ⟨.hbm, 281, rfl⟩
abbrev main_v278 : Ref sig .tc := ⟨.hbm, 282, rfl⟩
abbrev main_v279 : Ref sig .tc := ⟨.hbm, 283, rfl⟩
abbrev main_v280 : Ref sig .tc := ⟨.hbm, 284, rfl⟩
abbrev main_v281 : Ref sig .tc := ⟨.hbm, 285, rfl⟩
abbrev main_v282 : Ref sig .tc := ⟨.hbm, 286, rfl⟩
abbrev main_v283 : Ref sig .tc := ⟨.hbm, 287, rfl⟩
abbrev main_v284 : Ref sig .tc := ⟨.hbm, 288, rfl⟩
abbrev main_v285 : Ref sig .tc := ⟨.hbm, 289, rfl⟩
abbrev main_v286 : Ref sig .tc := ⟨.hbm, 290, rfl⟩
abbrev main_v287 : Ref sig .tc := ⟨.hbm, 291, rfl⟩
abbrev main_v288 : Ref sig .tc := ⟨.hbm, 292, rfl⟩
abbrev main_v289 : Ref sig .tc := ⟨.hbm, 293, rfl⟩
abbrev main_v290 : Ref sig .tc := ⟨.hbm, 294, rfl⟩
abbrev main_v291 : Ref sig .tc := ⟨.hbm, 295, rfl⟩
abbrev main_v292 : Ref sig .tc := ⟨.hbm, 296, rfl⟩
abbrev main_v293 : Ref sig .tc := ⟨.hbm, 297, rfl⟩
abbrev main_v294 : Ref sig .tc := ⟨.hbm, 298, rfl⟩
abbrev main_v295 : Ref sig .tc := ⟨.hbm, 299, rfl⟩
abbrev main_v296 : Ref sig .tc := ⟨.hbm, 300, rfl⟩
abbrev main_v297 : Ref sig .tc := ⟨.hbm, 301, rfl⟩
abbrev main_v298 : Ref sig .tc := ⟨.hbm, 302, rfl⟩
abbrev main_v299 : Ref sig .tc := ⟨.hbm, 303, rfl⟩
abbrev main_v300 : Ref sig .tc := ⟨.hbm, 304, rfl⟩
abbrev main_v301 : Ref sig .tc := ⟨.hbm, 305, rfl⟩
abbrev main_v302 : Ref sig .tc := ⟨.hbm, 306, rfl⟩
abbrev main_v303 : Ref sig .tc := ⟨.hbm, 307, rfl⟩
abbrev main_v304 : Ref sig .tc := ⟨.hbm, 308, rfl⟩
abbrev main_v305 : Ref sig .tc := ⟨.hbm, 309, rfl⟩
abbrev main_v306 : Ref sig .tc := ⟨.hbm, 310, rfl⟩
abbrev main_v307 : Ref sig .tc := ⟨.hbm, 311, rfl⟩
abbrev main_v308 : Ref sig .tc := ⟨.hbm, 312, rfl⟩
abbrev main_v309 : Ref sig .tc := ⟨.hbm, 313, rfl⟩
abbrev main_v310 : Ref sig .tc := ⟨.hbm, 314, rfl⟩
abbrev main_v311 : Ref sig .tc := ⟨.hbm, 315, rfl⟩
abbrev main_v312 : Ref sig .tc := ⟨.hbm, 316, rfl⟩
abbrev main_v313 : Ref sig .tc := ⟨.hbm, 317, rfl⟩
abbrev main_v314 : Ref sig .tc := ⟨.hbm, 318, rfl⟩
abbrev main_v315 : Ref sig .tc := ⟨.hbm, 319, rfl⟩
abbrev main_v316 : Ref sig .tc := ⟨.hbm, 320, rfl⟩
abbrev main_v317 : Ref sig .tc := ⟨.hbm, 321, rfl⟩
abbrev main_v318 : Ref sig .tc := ⟨.hbm, 322, rfl⟩
abbrev main_v319 : Ref sig .tc := ⟨.hbm, 323, rfl⟩
abbrev main_v320 : Ref sig .tc := ⟨.hbm, 324, rfl⟩
abbrev main_v321 : Ref sig .tc := ⟨.hbm, 325, rfl⟩
abbrev main_v322 : Ref sig .tc := ⟨.hbm, 326, rfl⟩
abbrev main_v323 : Ref sig .tc := ⟨.hbm, 327, rfl⟩
abbrev main_v324 : Ref sig .tc := ⟨.hbm, 328, rfl⟩
abbrev main_v325 : Ref sig .tc := ⟨.hbm, 329, rfl⟩
abbrev main_v326 : Ref sig .tc := ⟨.hbm, 330, rfl⟩
abbrev main_v327 : Ref sig .tc := ⟨.hbm, 331, rfl⟩
abbrev main_v328 : Ref sig .tc := ⟨.hbm, 332, rfl⟩
abbrev main_v329 : Ref sig .tc := ⟨.hbm, 333, rfl⟩
abbrev main_v330 : Ref sig .tc := ⟨.hbm, 334, rfl⟩
abbrev main_v331 : Ref sig .tc := ⟨.hbm, 335, rfl⟩
abbrev main_v332 : Ref sig .tc := ⟨.hbm, 336, rfl⟩
abbrev main_v333 : Ref sig .tc := ⟨.hbm, 337, rfl⟩
abbrev main_v334 : Ref sig .tc := ⟨.hbm, 338, rfl⟩
abbrev main_v335 : Ref sig .tc := ⟨.hbm, 339, rfl⟩
abbrev main_v336 : Ref sig .tc := ⟨.hbm, 340, rfl⟩
abbrev main_v337 : Ref sig .tc := ⟨.hbm, 341, rfl⟩
abbrev main_v338 : Ref sig .tc := ⟨.hbm, 342, rfl⟩
abbrev main_v339 : Ref sig .tc := ⟨.hbm, 343, rfl⟩
abbrev main_v340 : Ref sig .tc := ⟨.hbm, 344, rfl⟩
abbrev main_v341 : Ref sig .tc := ⟨.hbm, 345, rfl⟩
abbrev main_v342 : Ref sig .tc := ⟨.hbm, 346, rfl⟩
abbrev main_v343 : Ref sig .tc := ⟨.hbm, 347, rfl⟩
abbrev main_v344 : Ref sig .tc := ⟨.hbm, 348, rfl⟩
abbrev main_v345 : Ref sig .tc := ⟨.hbm, 349, rfl⟩
abbrev main_v346 : Ref sig .tc := ⟨.hbm, 350, rfl⟩
abbrev main_v347 : Ref sig .tc := ⟨.hbm, 351, rfl⟩
abbrev main_v348 : Ref sig .tc := ⟨.hbm, 352, rfl⟩
abbrev main_v349 : Ref sig .tc := ⟨.hbm, 353, rfl⟩
abbrev main_v350 : Ref sig .tc := ⟨.hbm, 354, rfl⟩
abbrev main_v351 : Ref sig .tc := ⟨.hbm, 355, rfl⟩
abbrev main_v352 : Ref sig .tc := ⟨.hbm, 356, rfl⟩
abbrev main_v353 : Ref sig .tc := ⟨.hbm, 357, rfl⟩
abbrev main_v354 : Ref sig .tc := ⟨.hbm, 358, rfl⟩
abbrev main_v355 : Ref sig .tc := ⟨.hbm, 359, rfl⟩
abbrev main_v356 : Ref sig .tc := ⟨.hbm, 360, rfl⟩
abbrev main_v357 : Ref sig .tc := ⟨.hbm, 361, rfl⟩
abbrev main_v358 : Ref sig .tc := ⟨.hbm, 362, rfl⟩
abbrev main_v359 : Ref sig .tc := ⟨.hbm, 363, rfl⟩
abbrev main_v360 : Ref sig .tc := ⟨.hbm, 364, rfl⟩
abbrev main_v361 : Ref sig .tc := ⟨.hbm, 365, rfl⟩
abbrev main_v362 : Ref sig .tc := ⟨.hbm, 366, rfl⟩
abbrev main_v363 : Ref sig .tc := ⟨.hbm, 367, rfl⟩
abbrev main_v364 : Ref sig .tc := ⟨.hbm, 368, rfl⟩
abbrev main_v365 : Ref sig .tc := ⟨.hbm, 369, rfl⟩
abbrev main_v366 : Ref sig .tc := ⟨.hbm, 370, rfl⟩
abbrev main_v367 : Ref sig .tc := ⟨.hbm, 371, rfl⟩
abbrev main_v368 : Ref sig .tc := ⟨.hbm, 372, rfl⟩
abbrev main_v369 : Ref sig .tc := ⟨.hbm, 373, rfl⟩
abbrev main_v370 : Ref sig .tc := ⟨.hbm, 374, rfl⟩
abbrev main_v371 : Ref sig .tc := ⟨.hbm, 375, rfl⟩
abbrev main_v372 : Ref sig .tc := ⟨.hbm, 376, rfl⟩

abbrev nD : Nat := 1
abbrev τ : Topo := Topo.v7x

variable {F : FTy → Type} [FloatOps F]
-- ==== Proof.Net.lean ====
/-
  The comparator networks of the kernel, over any type with a minimum and a maximum: the ascending sort of eight
  values, and the merge of eight descending values with eight ascending ones into the eight greatest, descending.
  A map that respects the two operations commutes with them, and over truth values they are evaluated outright.
-/
module

public import Idealize.ShloMosaic.Lib.Tactic
public import Mathlib.Tactic.FinCases
public import Mathlib.Data.Fintype.Basic
public import Mathlib.Data.Fintype.Prod

@[expose] public section

namespace Cert.Proof.Net

universe u v
variable {α : Type u} {β : Type v}

/-- Eight values. -/
abbrev R8 (α : Type u) : Type u := α × α × α × α × α × α × α × α

/-- A function applied to each of eight values. -/
def map8 (φ : α → β) : R8 α → R8 β
  | (a0, a1, a2, a3, a4, a5, a6, a7) => (φ a0, φ a1, φ a2, φ a3, φ a4, φ a5, φ a6, φ a7)

/-- The value at a position. -/
def get8 : R8 α → Fin 8 → α
  | (a0, a1, a2, a3, a4, a5, a6, a7) => ![a0, a1, a2, a3, a4, a5, a6, a7]

/-- Eight values given by position. -/
def of8 (f : Fin 8 → α) : R8 α := (f 0, f 1, f 2, f 3, f 4, f 5, f 6, f 7)

/-- The ascending sort: nineteen comparators. -/
def sort8 (mn mx : α → α → α) : R8 α → R8 α
  | (a0, a1, a2, a3, a4, a5, a6, a7) =>
    let l1 := mn a0 a1; let h1 := mx a0 a1
    let l2 := mn a2 a3; let h2 := mx a2 a3
    let l3 := mn a4 a5; let h3 := mx a4 a5
    let l4 := mn a6 a7; let h4 := mx a6 a7
    let l5 := mn l1 l2; let h5 := mx l1 l2
    let l6 := mn h1 h2; let h6 := mx h1 h2
    let l7 := mn l3 l4; let h7 := mx l3 l4
    let l8 := mn h3 h4; let h8 := mx h3 h4
    let l9 := mn l6 h5; let h9 := mx l6 h5
    let l10 := mn l8 h7; let h10 := mx l8 h7
    let l11 := mn l5 l7; let h11 := mx l5 l7
    let l12 := mn l9 l10; let h12 := mx l9 l10
    let l13 := mn h9 h10; let h13 := mx h9 h10
    let l14 := mn h6 h8; let h14 := mx h6 h8
    let l15 := mn l13 h11; let h15 := mx l13 h11
    let l16 := mn l14 h12; let h16 := mx l14 h12
    let l17 := mn l12 l15; let h17 := mx l12 l15
    let l18 := mn l16 h15; let h18 := mx l16 h15
    let l19 := mn h16 h13; let h19 := mx h16 h13
    (l11, l17, h17, l18, h18, l19, h19, h14)

/-- A bitonic sequence sorted descending: twelve comparators. -/
def bitonic8 (mn mx : α → α → α) : R8 α → R8 α
  | (a0, a1, a2, a3, a4, a5, a6, a7) =>
    let l1 := mx a0 a4; let h1 := mn a0 a4
    let l2 := mx a1 a5; let h2 := mn a1 a5
    let l3 := mx a2 a6; let h3 := mn a2 a6
    let l4 := mx a3 a7; let h4 := mn a3 a7
    let l5 := mx l1 l3; let h5 := mn l1 l3
    let l6 := mx l2 l4; let h6 := mn l2 l4
    let l7 := mx h1 h3; let h7 := mn h1 h3
    let l8 := mx h2 h4; let h8 := mn h2 h4
    let l9 := mx l5 l6; let h9 := mn l5 l6
    let l10 := mx h5 h6; let h10 := mn h5 h6
    let l11 := mx l7 l8; let h11 := mn l7 l8
    let l12 := mx h7 h8; let h12 := mn h7 h8
    (l9, h9, l10, h10, l11, h11, l12, h12)

/-- The greater value at each position. -/
def max8 (mx : α → α → α) : R8 α → R8 α → R8 α
  | (a0, a1, a2, a3, a4, a5, a6, a7), (b0, b1, b2, b3, b4, b5, b6, b7) =>
    (mx a0 b0, mx a1 b1, mx a2 b2, mx a3 b3, mx a4 b4, mx a5 b5, mx a6 b6, mx a7 b7)

/-- One trip: eight new values merged into the eight kept. -/
def trip8 (mn mx : α → α → α) (r f : R8 α) : R8 α := bitonic8 mn mx (max8 mx r (sort8 mn mx f))

/-- A position of a mapped tuple. -/
theorem get8_map8 (φ : α → β) (r : R8 α) (d : Fin 8) : get8 (map8 φ r) d = φ (get8 r d) := by
  obtain ⟨a0, a1, a2, a3, a4, a5, a6, a7⟩ := r
  fin_cases d <;> rfl

/-- A position of a tuple given by position. -/
theorem get8_of8 (f : Fin 8 → α) (d : Fin 8) : get8 (of8 f) d = f d := by fin_cases d <;> rfl

/-- A map of a tuple given by position. -/
theorem map8_of8 (φ : α → β) (f : Fin 8 → α) : map8 φ (of8 f) = of8 fun d => φ (f d) := rfl

/-- A map that respects the two operations commutes with a trip. -/
theorem map8_trip8 {mn mx : α → α → α} {mn' mx' : β → β → β} (φ : α → β) (hmn : ∀ a b, φ (mn a b) = mn' (φ a) (φ b))
    (hmx : ∀ a b, φ (mx a b) = mx' (φ a) (φ b)) (r f : R8 α) :
    map8 φ (trip8 mn mx r f) = trip8 mn' mx' (map8 φ r) (map8 φ f) := by
  obtain ⟨a0, a1, a2, a3, a4, a5, a6, a7⟩ := r
  obtain ⟨b0, b1, b2, b3, b4, b5, b6, b7⟩ := f
  simp only [trip8, bitonic8, max8, sort8, map8, hmn, hmx]

/-! ## Over truth values -/

/-- `n` ones and then zeros. -/
def desc (n : ℕ) : R8 Bool := of8 fun d => decide (d.val < n)

/-- How many of eight truth values hold. -/
def cnt8 : R8 Bool → ℕ
  | (a0, a1, a2, a3, a4, a5, a6, a7) =>
    a0.toNat + a1.toNat + a2.toNat + a3.toNat + a4.toNat + a5.toNat + a6.toNat + a7.toNat

/-- Eight ones are the most. -/
theorem desc_cap (n : ℕ) : desc n = desc (min 8 n) := by
  unfold desc of8
  simp

set_option maxRecDepth 100000 in set_option synthInstance.maxSize 100000 in set_option synthInstance.maxHeartbeats 400000 in
/-- A trip over truth values counts: the ones kept and the ones brought, up to eight. -/
theorem trip8_desc_small : ∀ n : Fin 9, ∀ a0 a1 a2 a3 a4 a5 a6 a7 : Bool,
    trip8 (· && ·) (· || ·) (desc n.val) (a0, a1, a2, a3, a4, a5, a6, a7)
      = desc (n.val + cnt8 (a0, a1, a2, a3, a4, a5, a6, a7)) := by
  decide +kernel

/-- A trip over truth values adds the ones it brings to the ones kept. -/
theorem trip8_desc (n : ℕ) (f : R8 Bool) : trip8 (· && ·) (· || ·) (desc n) f = desc (n + cnt8 f) := by
  obtain ⟨a0, a1, a2, a3, a4, a5, a6, a7⟩ := f
  rw [desc_cap n, trip8_desc_small ⟨min 8 n, by omega⟩, desc_cap, desc_cap (n + _)]
  congr 1; dsimp only; omega

end Cert.Proof.Net

end
-- ==== Proof.KernelIdeal.Body.lean ====
module

public import proofs.«01_k».proof.Defs
public import proofs.«01_k».proof.Proof.Gen.KernelIdeal
public import proofs.«01_k».proof.Proof.Gen.KernelIdeal.Skeleton
public import proofs.«01_k».proof.Proof.Net
/-! The row body of the tile program, written once over the buffer it reads: eight gathers and one
    step of the top-eight network per trip, then eight scatters, for two groups of features. -/
@[expose] public section
noncomputable section
namespace Cert.Proof.KernelIdeal
open Cert.KernelIdeal Cert.KernelIdeal.Gen
open Idealize.SL.Sem Idealize.ShloMosaic
open Cert.Proof.Net
variable {F : FTy → Type} [FloatOps F]

/-- The programs of the tile at grid point `i`. -/
abbrev TileProg (F : FTy → Type) [FloatOps F] (i : grid0.Coords) (α : Type) : Type 1 :=
  Prog (TpuEff nD τ sig (Elt F) Λ₀ (.scVector ((i 0).castLE hcore0) ((i 1).castLE hsub0))) α

/-- One gather of sixteen words of the slab `A`, at rows `v` and columns `c`. -/
def gat (i : grid0.Coords) (A : Memref sig .scVector .vmem S8x5200 .f32) (v c : IVec S16 32) :
    TileProg F i (Vec F S16 .f32) := do
  have h : k0_chk1 v c := (← Prog.lift (TpuEff.assume (k0_chk1 v c) (k0_chk1.dec v c))).down
  SparseCore.vectorLoadIdx A ![v, c] (k0_idx1_inb v c h) (View.loads_vmem h_S8x5200)

/-- One scatter of sixteen words into the output slab `O`. -/
def sto (i : grid0.Coords) (O : Memref sig .scVector .vmem S8x208 .f32) (v c : IVec S16 32)
    (w : FVec F S16 .f32) (m : IVec S16 1) : TileProg F i Unit := do
  have h : k0_chk9 v c := (← Prog.lift (TpuEff.assume (k0_chk9 v c) (k0_chk9.dec v c))).down
  SparseCore.vectorStoreIdx O ![v, c] w m false (k0_idx9_inb v c h)
    (View.stores_vmem_bits_univ h_S8x208 rfl)

/-- The columns of the `u`-th gather of a trip of the first loop. -/
def colA (a : IVec S16 32) (u : ℕ) : IVec S16 32 := addi a (broadcast S16 (BitVec.ofNat 32 (26 * u)))

/-- The columns of the `u`-th gather of a trip of the second loop, held inside the row. -/
def colB (a : IVec S16 32) (u : ℕ) : IVec S16 32 := minsi (colA a u) (broadcast S16 5199#32)

/-- One trip: eight gathers at the columns `col`, one step of the network, the columns moved on. -/
def tripProg (i : grid0.Coords) (A : Memref sig .scVector .vmem S8x5200 .f32) (v : IVec S16 32)
    (s : FVec F S16 .f32) (col : IVec S16 32 → ℕ → IVec S16 32)
    (p : IVec S16 32 × R8 (FVec F S16 .f32)) :
    TileProg F i (IVec S16 32 × R8 (FVec F S16 .f32)) := do
  let g0 ← gat i A v (col p.1 0)
  let g1 ← gat i A v (col p.1 1)
  let g2 ← gat i A v (col p.1 2)
  let g3 ← gat i A v (col p.1 3)
  let g4 ← gat i A v (col p.1 4)
  let g5 ← gat i A v (col p.1 5)
  let g6 ← gat i A v (col p.1 6)
  let g7 ← gat i A v (col p.1 7)
  pure (addi p.1 (broadcast S16 208#32), trip8 minimumf maximumf p.2
    (mulf s g0, mulf s g1, mulf s g2, mulf s g3, mulf s g4, mulf s g5, mulf s g6, mulf s g7))

/-- The sign a feature's words are flipped by. -/
abbrev sgn (a : Vec F S16 .f32) : FVec F S16 .f32 := k0_pay139 a

/-- The value stored for a register `r`: scaled by the size of `a` and shifted by `b`. -/
def outv (a b : Vec F S16 .f32) (r : FVec F S16 .f32) : FVec F S16 .f32 :=
  addf (mulf (mulf a (sgn a)) r) b

/-- The eight scatters of a group of features. -/
def sto8 (i : grid0.Coords) (O : Memref sig .scVector .vmem S8x208 .f32) (v : IVec S16 32)
    (oc : ℕ → IVec S16 32) (a b : Vec F S16 .f32) (r : R8 (FVec F S16 .f32)) (m : IVec S16 1) :
    TileProg F i Unit := do
  sto i O v (oc 0) (outv a b r.1) m
  sto i O v (oc 1) (outv a b r.2.1) m
  sto i O v (oc 2) (outv a b r.2.2.1) m
  sto i O v (oc 3) (outv a b r.2.2.2.1) m
  sto i O v (oc 4) (outv a b r.2.2.2.2.1) m
  sto i O v (oc 5) (outv a b r.2.2.2.2.2.1) m
  sto i O v (oc 6) (outv a b r.2.2.2.2.2.2.1) m
  sto i O v (oc 7) (outv a b r.2.2.2.2.2.2.2) m

/-- The output columns of the first group's `d`-th scatter. -/
def ocA (v5 : IVec S16 32) (d : ℕ) : IVec S16 32 := addi v5 (broadcast S16 (BitVec.ofNat 32 d))

/-- The output columns of the second group's `d`-th scatter, held inside the row. -/
def ocB (v5 : IVec S16 32) (d : ℕ) : IVec S16 32 :=
  minsi (addi v5 (broadcast S16 (BitVec.ofNat 32 (104 + d)))) (broadcast S16 207#32)

/-- The body of one row of a slab. -/
def rowProg (i : grid0.Coords) (AV BV : Memref sig .scVector .vmem S32 .f32)
    (A : Memref sig .scVector .vmem S8x5200 .f32) (O : Memref sig .scVector .vmem S8x208 .f32)
    (v3 v5 : IVec S16 32) (v6 : FVec F S16 .f32) (t : Fin k0_t2_loop.trips) :
    TileProg F i Unit := do
  let a ← Prog.lift (.load AV (Rect.unit (s := S32) ![0] S16.size inb_S32_S16_0).toLoadRect
    (View.loadsAt_vmem h_S16))
  let b ← Prog.lift (.load BV (Rect.unit (s := S32) ![0] S16.size inb_S32_S16_0).toLoadRect
    (View.loadsAt_vmem h_S16))
  let p ← Scf.Loop.for k0_t3_loop k0_t3_ok (k0_pay141 v3, v6, v6, v6, v6, v6, v6, v6, v6)
    (fun _ p => tripProg i A (k0_pay138 0#32 1#32 t) (sgn a) colA p)
  sto8 i O (k0_pay138 0#32 1#32 t) (ocA v5) a b p.2 (fun _ => 1#1)
  let a' ← Prog.lift (.load AV (Rect.unit (s := S32) ![13] S16.size inb_S32_S16_13).toLoadRect
    (View.loadsAt_vmem h_S16))
  let b' ← Prog.lift (.load BV (Rect.unit (s := S32) ![13] S16.size inb_S32_S16_13).toLoadRect
    (View.loadsAt_vmem h_S16))
  let p' ← Scf.Loop.for k0_t4_loop k0_t4_ok (k0_pay161 v3, v6, v6, v6, v6, v6, v6, v6, v6)
    (fun _ p => tripProg i A (k0_pay138 0#32 1#32 t) (sgn a') colB p)
  sto8 i O (k0_pay138 0#32 1#32 t) (ocB v5) a' b' p'.2 (k0_pay186 v3)

set_option maxRecDepth 65536 in
/-- The first loop's body is a trip over the row. -/
theorem t3_eq (i : grid0.Coords) (arg2 : Memref sig .scVector .hbm S4096x5200 .f32) (harg2 : arg2.IsWhole)
    (arg3 : Memref sig .scVector .hbm S32 .f32) (harg3 : arg3.IsWhole)
    (arg4 : Memref sig .scVector .hbm S32 .f32) (harg4 : arg4.IsWhole)
    (arg5 : Memref sig .scVector .hbm S4096x208 .f32) (harg5 : arg5.IsWhole)
    (arg6 : Memref sig .scVector .vmem S32 .f32) (harg6 : arg6.IsWhole)
    (arg7 : Memref sig .scVector .vmem S32 .f32) (harg7 : arg7.IsWhole)
    (arg8 : Memref sig .scVector .vmem S8x5200 .f32) (harg8 : arg8.IsWhole)
    (arg9 : Memref sig .scVector .vmem S8x5200 .f32) (harg9 : arg9.IsWhole)
    (arg10 : Memref sig .scVector .vmem S8x208 .f32) (harg10 : arg10.IsWhole) (arg11 : DmaSems sig S_)
    (arg12 : DmaSems sig S_) (arg13 : DmaSems sig S_) (v11_r0 : DmaSems sig S_)
    (v11_r1 : DmaSems sig S_)
    (v3 v5 : IVec S16 32) (v6 : FVec F S16 .f32) (c c' : BitVec 32) (t2 : Fin k0_t2_loop.trips)
    (v46 : IVec S16 32) (v47 : Vec F S16 .f32) :
    k0_t3_body i arg2 harg2 arg3 harg3 arg4 harg4 arg5 harg5 arg6 harg6 arg7 harg7 arg8 harg8 arg9 harg9 arg10 harg10 arg11 arg12 arg13 v11_r0 v11_r1 v3 v5 v6 c c' t2 v46 v47
      = fun _ p => tripProg i arg8 v46 (sgn v47) colA p := rfl

set_option maxRecDepth 65536 in
/-- The second loop's body is a trip over the row. -/
theorem t4_eq (i : grid0.Coords) (arg2 : Memref sig .scVector .hbm S4096x5200 .f32) (harg2 : arg2.IsWhole)
    (arg3 : Memref sig .scVector .hbm S32 .f32) (harg3 : arg3.IsWhole)
    (arg4 : Memref sig .scVector .hbm S32 .f32) (harg4 : arg4.IsWhole)
    (arg5 : Memref sig .scVector .hbm S4096x208 .f32) (harg5 : arg5.IsWhole)
    (arg6 : Memref sig .scVector .vmem S32 .f32) (harg6 : arg6.IsWhole)
    (arg7 : Memref sig .scVector .vmem S32 .f32) (harg7 : arg7.IsWhole)
    (arg8 : Memref sig .scVector .vmem S8x5200 .f32) (harg8 : arg8.IsWhole)
    (arg9 : Memref sig .scVector .vmem S8x5200 .f32) (harg9 : arg9.IsWhole)
    (arg10 : Memref sig .scVector .vmem S8x208 .f32) (harg10 : arg10.IsWhole) (arg11 : DmaSems sig S_)
    (arg12 : DmaSems sig S_) (arg13 : DmaSems sig S_) (v11_r0 : DmaSems sig S_)
    (v11_r1 : DmaSems sig S_)
    (v3 v5 : IVec S16 32) (v6 : FVec F S16 .f32) (v46 : IVec S16 32) (v48 : Vec F S16 .f32)
    (v54 v58_6 v58_7 v58_8 v76 : FVec F S16 .f32) (v78 : IVec S16 32) (v91 : Vec F S16 .f32) :
    k0_t4_body i arg2 harg2 arg3 harg3 arg4 harg4 arg5 harg5 arg6 harg6 arg7 harg7 arg8 harg8 arg9 harg9 arg10 harg10 arg11 arg12 arg13 v11_r0 v11_r1 v3 v5 v6 v46 v48 v54 v58_6 v58_7 v58_8 v76 v78 v91
      = fun _ p => tripProg i arg8 v46 (sgn v91) colB p := rfl

set_option maxRecDepth 65536 in
/-- The first slab's loop body is the row body over the first buffer. -/
theorem t2_eq (i : grid0.Coords) (arg2 : Memref sig .scVector .hbm S4096x5200 .f32) (harg2 : arg2.IsWhole)
    (arg3 : Memref sig .scVector .hbm S32 .f32) (harg3 : arg3.IsWhole)
    (arg4 : Memref sig .scVector .hbm S32 .f32) (harg4 : arg4.IsWhole)
    (arg5 : Memref sig .scVector .hbm S4096x208 .f32) (harg5 : arg5.IsWhole)
    (arg6 : Memref sig .scVector .vmem S32 .f32) (harg6 : arg6.IsWhole)
    (arg7 : Memref sig .scVector .vmem S32 .f32) (harg7 : arg7.IsWhole)
    (arg8 : Memref sig .scVector .vmem S8x5200 .f32) (harg8 : arg8.IsWhole)
    (arg9 : Memref sig .scVector .vmem S8x5200 .f32) (harg9 : arg9.IsWhole)
    (arg10 : Memref sig .scVector .vmem S8x208 .f32) (harg10 : arg10.IsWhole) (arg11 : DmaSems sig S_)
    (arg12 : DmaSems sig S_) (arg13 : DmaSems sig S_) (v11_r0 : DmaSems sig S_)
    (v11_r1 : DmaSems sig S_)
    (v2 : BitVec 32) (v3 v5 : IVec S16 32) (v6 : FVec F S16 .f32) (c c' : BitVec 32)
    (t1 : Fin k0_t1_loop.trips) :
    k0_t2_body i arg2 harg2 arg3 harg3 arg4 harg4 arg5 harg5 arg6 harg6 arg7 harg7 arg8 harg8 arg9 harg9 arg10 harg10 arg11 arg12 arg13 v11_r0 v11_r1 v2 v3 v5 v6 c c' t1
      = fun t _ => rowProg i arg6 arg7 arg8 arg10 v3 v5 v6 t := by
  funext t u
  unfold k0_t2_body
  simp only [k0_part5_eq_skeleton, k0_part6_eq_skeleton, k0_part7_eq_skeleton, k0_part5_skel,
    k0_part6_skel, k0_part7_skel, rowProg, sto8, sto, bind_assoc, pure_bind, t3_eq, t4_eq]
  rfl

set_option maxRecDepth 65536 in
/-- The second slab's loop body is the row body over the second buffer. -/
theorem t5_eq (i : grid0.Coords) (arg2 : Memref sig .scVector .hbm S4096x5200 .f32) (harg2 : arg2.IsWhole)
    (arg3 : Memref sig .scVector .hbm S32 .f32) (harg3 : arg3.IsWhole)
    (arg4 : Memref sig .scVector .hbm S32 .f32) (harg4 : arg4.IsWhole)
    (arg5 : Memref sig .scVector .hbm S4096x208 .f32) (harg5 : arg5.IsWhole)
    (arg6 : Memref sig .scVector .vmem S32 .f32) (harg6 : arg6.IsWhole)
    (arg7 : Memref sig .scVector .vmem S32 .f32) (harg7 : arg7.IsWhole)
    (arg8 : Memref sig .scVector .vmem S8x5200 .f32) (harg8 : arg8.IsWhole)
    (arg9 : Memref sig .scVector .vmem S8x5200 .f32) (harg9 : arg9.IsWhole)
    (arg10 : Memref sig .scVector .vmem S8x208 .f32) (harg10 : arg10.IsWhole) (arg11 : DmaSems sig S_)
    (arg12 : DmaSems sig S_) (arg13 : DmaSems sig S_) (v11_r0 : DmaSems sig S_)
    (v11_r1 : DmaSems sig S_)
    (v3 : IVec S16 32) :
    k0_t5_body (F := F) i arg2 harg2 arg3 harg3 arg4 harg4 arg5 harg5 arg6 harg6 arg7 harg7 arg8 harg8 arg9 harg9 arg10 harg10 arg11 arg12 arg13 v11_r0 v11_r1 v3
      = fun t _ => rowProg i arg6 arg7 arg9 arg10 v3 k0_pay1 k0_pay2 t :=
  t2_eq i arg2 harg2 arg3 harg3 arg4 harg4 arg5 harg5 arg6 harg6 arg7 harg7 arg9 harg9 arg8 harg8 arg10 harg10 arg11 arg12 arg13 v11_r0 v11_r1 0#32 v3 k0_pay1 k0_pay2 0#32 0#32 ⟨0, by decide⟩

end Cert.Proof.KernelIdeal
end
-- ==== Proof.KernelIdeal.Vals.lean ====
module

public import proofs.«01_k».proof.Proof.KernelIdeal.Body
/-! What a row of the tile program computes, as plain functions of the buffers it reads, and the index
    arithmetic of its gathers and scatters. -/
@[expose] public section
noncomputable section
namespace Cert.Proof.KernelIdeal
open Cert.KernelIdeal Cert.KernelIdeal.Gen
open Idealize.SL.Sem Idealize.ShloMosaic
open Cert.Proof.Net
variable {F : FTy → Type} [FloatOps F]

/-! ## Indices -/

/-- The word of a slab at row `r` and column `c`, both held inside the slab. -/
def cell (r c : ℕ) : S8x5200.Idx
  | 0 => ⟨r % 8, Nat.mod_lt _ (by decide)⟩
  | 1 => ⟨min c 5199, Nat.lt_succ_of_le (Nat.min_le_right _ _)⟩

/-- Lane `n` of a vector, `n` held below sixteen. -/
def lane (n : ℕ) : S16.Idx
  | 0 => ⟨n % 16, Nat.mod_lt _ (by decide)⟩

/-- Word `n` of a thirty-two word table, `n` held inside it. -/
def word (n : ℕ) : S32.Idx
  | 0 => ⟨n % 32, Nat.mod_lt _ (by decide)⟩

/-- Sixteen lanes. -/
theorem lane_lt (x : S16.Idx) : (x 0).val < 16 := (x 0).isLt

/-- An index is the lane of its number. -/
theorem lane_val (x : S16.Idx) : lane (x 0).val = x := by
  funext a
  match a with
  | 0 => exact Fin.ext (Nat.mod_eq_of_lt (lane_lt x))

/-! ## Values -/

/-- The sixteen words of table `t` from word `o` on. -/
def win (t : Vec F S32 .f32) (o : ℕ) : Vec F S16 .f32 := fun x => t (word (o + (x 0).val))

/-- The words one gather reads: row `r`, features `f0 + lane`, position `n` of the list. -/
def gatv (xb : Vec F S8x5200 .f32) (r f0 n : ℕ) : Vec F S16 .f32 :=
  fun x => xb (cell r (f0 + (x 0).val + 26 * n))

/-- The eight registers after `k` trips over row `r` from feature `f0` on. -/
def regs (s : FVec F S16 .f32) (xb : Vec F S8x5200 .f32) (r f0 : ℕ) : ℕ → R8 (FVec F S16 .f32)
  | 0 => (k0_pay2, k0_pay2, k0_pay2, k0_pay2, k0_pay2, k0_pay2, k0_pay2, k0_pay2)
  | k + 1 => trip8 minimumf maximumf (regs s xb r f0 k)
      (mulf s (gatv xb r f0 (8 * k + 0)), mulf s (gatv xb r f0 (8 * k + 1)),
        mulf s (gatv xb r f0 (8 * k + 2)), mulf s (gatv xb r f0 (8 * k + 3)),
        mulf s (gatv xb r f0 (8 * k + 4)), mulf s (gatv xb r f0 (8 * k + 5)),
        mulf s (gatv xb r f0 (8 * k + 6)), mulf s (gatv xb r f0 (8 * k + 7)))

/-- The value stored at register `d` of row `r` from feature `f0` on, one lane a feature. -/
def rowv (av bv : Vec F S32 .f32) (xb : Vec F S8x5200 .f32) (r f0 : ℕ) (d : Fin 8) :
    FVec F S16 .f32 :=
  outv (win av f0) (win bv f0) (get8 (regs (sgn (win av f0)) xb r f0 25) d)

/-- The feature a group of lanes begins at, for a column of the output. -/
def grp (c : ℕ) : ℕ := if c < 104 then 0 else 13

/-- The output slab for the input slab `xb`. -/
def slabv (av bv : Vec F S32 .f32) (xb : Vec F S8x5200 .f32) : Vec F S8x208 .f32 := fun j =>
  rowv av bv xb (j 0).val (grp (j 1).val) ⟨(j 1).val % 8, Nat.mod_lt _ (by decide)⟩
    (lane ((j 1).val / 8 - grp (j 1).val))

/-- The output slab `g` after `d` scatters of row `r`: `n` features from `f0` on, `w` the values. -/
def part (g : Vec F S8x208 .f32) (r f0 n : ℕ) (w : Fin 8 → FVec F S16 .f32) (d : ℕ) :
    Vec F S8x208 .f32 := fun j =>
  if (j 0).val = r ∧ 8 * f0 ≤ (j 1).val ∧ (j 1).val < 8 * (f0 + n) ∧ (j 1).val % 8 < d then
    w ⟨(j 1).val % 8, Nat.mod_lt _ (by decide)⟩ (lane ((j 1).val / 8 - f0))
  else g j

/-- No scatter changes nothing. -/
theorem part_zero (g : Vec F S8x208 .f32) (r f0 n : ℕ) (w : Fin 8 → FVec F S16 .f32) :
    part g r f0 n w 0 = g := by
  funext j; simp [part]

/-! ## The words of the index vectors -/

/-- A vector of words that adds a constant to every lane. -/
theorem addi_broadcast_toNat (a : IVec S16 32) (n m : ℕ) (x : S16.Idx) (ha : (a x).toNat = m)
    (h : m + n < 2 ^ 32) : ((addi a (broadcast S16 (BitVec.ofNat 32 n))) x).toNat = m + n := by
  show (a x + BitVec.ofNat 32 n).toNat = m + n
  rw [BitVec.toNat_add, BitVec.toNat_ofNat, ha]
  omega

/-- A signed minimum of small words is the minimum of the numbers they hold. -/
theorem minsi_toNat (a : IVec S16 32) (n m : ℕ) (x : S16.Idx) (ha : (a x).toNat = m)
    (hm : m < 2 ^ 31) (hn : n < 2 ^ 31) :
    ((minsi a (broadcast S16 (BitVec.ofNat 32 n))) x).toNat = min m n := by
  have h2 : (BitVec.ofNat 32 n).toNat = n := by rw [BitVec.toNat_ofNat]; omega
  show (if (a x).slt (BitVec.ofNat 32 n) then a x else BitVec.ofNat 32 n).toNat = _
  rw [BitVec.slt_eq_decide, BitVec.toInt_eq_toNat_of_lt (by omega),
    BitVec.toInt_eq_toNat_of_lt (by omega), ha, h2]
  by_cases h : m < n
  · simp [h, ha]; omega
  · simp [h, h2]; omega

/-- The row index vector holds the row. -/
theorem v46_toNat (t : Fin k0_t2_loop.trips) (x : S16.Idx) :
    ((k0_pay138 0#32 1#32 t) x).toNat = t.val := by
  have ht : t.val < 8 := Nat.lt_of_lt_of_le t.isLt k0_t2_abs.2.1
  show (0#32 + (0#32 + BitVec.ofNat 32 t.val * 1#32)).toNat = t.val
  simp only [BitVec.zero_add, BitVec.mul_one, BitVec.toNat_ofNat]
  omega

/-- The lane numbers. -/
abbrev lanes : IVec S16 32 := iota .scVector S16 32 [0] iota_S16_d0_w32_scVector

/-- A lane's number. -/
theorem lanes_toNat (x : S16.Idx) : (lanes x).toNat = (x 0).val := by
  have := lane_lt x
  show (BitVec.ofNat 32 (0 * 16 + (x 0).val)).toNat = (x 0).val
  rw [BitVec.toNat_ofNat]; omega

/-- The columns a trip gathers at in the first loop. -/
theorem colA_toNat (a : IVec S16 32) (k u : ℕ) (hk : k < 25) (hu : u < 8)
    (ha : ∀ x, (a x).toNat = 0 + (x 0).val + 208 * k) (x : S16.Idx) :
    (colA a u x).toNat = min (0 + (x 0).val + 26 * (8 * k + u)) 5199 := by
  have := lane_lt x
  rw [colA, addi_broadcast_toNat a _ _ x (ha x) (by omega)]; omega

/-- The columns a trip gathers at in the second loop. -/
theorem colB_toNat (a : IVec S16 32) (k u : ℕ) (hk : k < 25) (hu : u < 8)
    (ha : ∀ x, (a x).toNat = 13 + (x 0).val + 208 * k) (x : S16.Idx) :
    (colB a u x).toNat = min (13 + (x 0).val + 26 * (8 * k + u)) 5199 := by
  have := lane_lt x
  rw [colB, minsi_toNat (colA a u) 5199 _ x
    (addi_broadcast_toNat a _ _ x (ha x) (by omega)) (by omega) (by omega)]; omega

/-- A lane's first column of the output. -/
theorem pay1_toNat (x : S16.Idx) : (k0_pay1 x).toNat = 8 * (x 0).val := by
  have := lane_lt x
  show (lanes x * 8#32).toNat = _
  rw [BitVec.toNat_mul, lanes_toNat]
  show (x 0).val * 8 % 2 ^ 32 = _
  omega

/-- The columns the first group's scatters write. -/
theorem ocA_toNat (d : ℕ) (hd : d < 8) (x : S16.Idx) :
    (ocA k0_pay1 d x).toNat = 8 * (0 + (x 0).val) + d := by
  have := lane_lt x
  rw [ocA, addi_broadcast_toNat _ _ _ x (pay1_toNat x) (by omega)]; omega

/-- The columns the second group's scatters write. -/
theorem ocB_toNat (d : ℕ) (hd : d < 8) (x : S16.Idx) :
    (ocB k0_pay1 d x).toNat = min (8 * (13 + (x 0).val) + d) 207 := by
  have := lane_lt x
  rw [ocB, minsi_toNat _ 207 _ x (addi_broadcast_toNat _ _ _ x (pay1_toNat x) (by omega))
    (by omega) (by omega)]; omega

/-- The lanes the second group's scatters write. -/
theorem mask_iff (x : S16.Idx) : k0_pay186 lanes x = 1 ↔ (x 0).val < 13 := by
  have := lane_lt x
  show BitVec.ofBool ((lanes x).slt 13#32) = 1 ↔ _
  rw [BitVec.slt_eq_decide, BitVec.toInt_eq_toNat_of_lt (by rw [lanes_toNat]; omega), lanes_toNat]
  show BitVec.ofBool (decide (((x 0).val : ℤ) < 13)) = 1 ↔ _
  by_cases h : (x 0).val < 13
  · have h' : ((x 0).val : ℤ) < 13 := by omega
    simp [h, h']
  · have h' : ¬ ((x 0).val : ℤ) < 13 := by omega
    simp [h, h']

/-! ## A scatter -/

/-- What lane `k` of a scatter does to the slab. -/
def put (v c : IVec S16 32) (w : FVec F S16 .f32) (m : IVec S16 1)
    (h : ∀ a x, ((![v, c] : Fin 2 → IVec S16 32) a x).toNat < S8x208.size a)
    (g : Vec F S8x208 .f32) (k : Fin 16) : Vec F S8x208 .f32 :=
  if m (lane k.val) = 1 then
    fun j => if (∀ a, (j a).val = (idxAt ![v, c] h (lane k.val) a).val) then w (lane k.val) else g j
  else g

/-- The index of a lane's number. -/
theorem ofLane_eq (k : Fin 16) : (Shape.ofLane (d := ![16]) k : S16.Idx) = lane k.val :=
  (lane_val (Shape.ofLane (d := ![16]) k)).symm

/-- A scatter is its lanes' writes in order. -/
theorem storeIdx_eq (g : Vec F S8x208 .f32) (v c : IVec S16 32) (w : FVec F S16 .f32)
    (m : IVec S16 1) (h : ∀ a x, ((![v, c] : Fin 2 → IVec S16 32) a x).toNat < S8x208.size a) :
    storeIdx g ![v, c] w m false h = (List.finRange 16).foldl (put v c w m h) g := by
  unfold storeIdx
  congr 1
  funext g k
  have e := ofLane_eq k
  simp only [put, ← e]
  by_cases hm : m (Shape.ofLane (d := ![16]) k) = 1
  · rw [if_pos hm, if_pos hm]
    funext j
    by_cases hj : ∀ a, (j a).val = (idxAt ![v, c] h (Shape.ofLane (d := ![16]) k) a).val
    · rw [if_pos hj, if_pos hj]; rfl
    · rw [if_neg hj, if_neg hj]
  · rw [if_neg hm, if_neg hm]

/-- A lane's write at an index. -/
theorem put_apply (r f0 n : ℕ) (w : FVec F S16 .f32) (d : ℕ) (v c : IVec S16 32) (m : IVec S16 1)
    (h : ∀ a x, ((![v, c] : Fin 2 → IVec S16 32) a x).toNat < S8x208.size a)
    (hv : ∀ x, (v x).toNat = r) (hm : ∀ x, m x = 1 ↔ (x 0).val < n)
    (hc : ∀ x : S16.Idx, (x 0).val < n → (c x).toNat = 8 * (f0 + (x 0).val) + d)
    (g : Vec F S8x208 .f32) (k : Fin 16) (j : S8x208.Idx) :
    put v c w m h g k j
      = if (j 0).val = r ∧ k.val < n ∧ (j 1).val = 8 * (f0 + k.val) + d then w (lane k.val)
        else g j := by
  have hx : ((lane k.val) 0).val = k.val := Nat.mod_eq_of_lt k.isLt
  unfold put
  by_cases hk : k.val < n
  · have hck := hc (lane k.val) (by rw [hx]; exact hk)
    rw [hx] at hck
    rw [if_pos ((hm _).2 (by rw [hx]; exact hk))]
    by_cases hj : (j 0).val = r ∧ (j 1).val = 8 * (f0 + k.val) + d
    · have hi : ∀ a, (j a).val = (idxAt ![v, c] h (lane k.val) a).val := fun a =>
        match a with
        | 0 => hj.1.trans (hv _).symm
        | 1 => hj.2.trans hck.symm
      rw [if_pos hi, if_pos ⟨hj.1, hk, hj.2⟩]
    · have hi : ¬ ∀ a, (j a).val = (idxAt ![v, c] h (lane k.val) a).val := fun H =>
        hj ⟨(H 0).trans (hv _), (H 1).trans hck⟩
      rw [if_neg hi, if_neg (fun H => hj ⟨H.1, H.2.2⟩)]
  · rw [if_neg (fun H => hk (by have := (hm _).1 H; rwa [hx] at this)), if_neg (fun H => hk H.2.1)]

/-- A scatter of row `r` whose lane `k` below `n` writes column `8 * (f0 + k) + d` adds the `d`-th
    register to the row. -/
theorem storeIdx_part (g : Vec F S8x208 .f32) (r f0 n : ℕ) (w : Fin 8 → FVec F S16 .f32) (d : Fin 8)
    (v c : IVec S16 32) (m : IVec S16 1)
    (h : ∀ a x, ((![v, c] : Fin 2 → IVec S16 32) a x).toNat < S8x208.size a)
    (hv : ∀ x, (v x).toNat = r) (hm : ∀ x, m x = 1 ↔ (x 0).val < n) (hn : n ≤ 16)
    (hc : ∀ x : S16.Idx, (x 0).val < n → (c x).toNat = 8 * (f0 + (x 0).val) + d.val) :
    storeIdx (part g r f0 n w d.val) ![v, c] (w d) m false h = part g r f0 n w (d.val + 1) := by
  have key : ∀ (l : List (Fin 16)) (g' : Vec F S8x208 .f32) (j : S8x208.Idx),
      (l.foldl (put v c (w d) m h) g') j
      = if (j 0).val = r ∧ ∃ k ∈ l, k.val < n ∧ (j 1).val = 8 * (f0 + k.val) + d.val
        then w d (lane ((j 1).val / 8 - f0)) else g' j := by
    intro l
    induction l with
    | nil => intro g' j; simp
    | cons k l ih =>
      intro g' j
      rw [List.foldl_cons, ih]
      by_cases hl : (j 0).val = r ∧ ∃ k ∈ l, k.val < n ∧ (j 1).val = 8 * (f0 + k.val) + d.val
      · rw [if_pos hl, if_pos ⟨hl.1, let ⟨k', hk', e⟩ := hl.2; ⟨k', List.mem_cons_of_mem _ hk', e⟩⟩]
      · rw [if_neg hl, put_apply r f0 n (w d) d.val v c m h hv hm hc]
        by_cases hj : (j 0).val = r ∧ k.val < n ∧ (j 1).val = 8 * (f0 + k.val) + d.val
        · rw [if_pos hj, if_pos ⟨hj.1, k, List.mem_cons_self, hj.2⟩]
          have hdl := d.isLt
          have : (j 1).val / 8 - f0 = k.val := by rw [hj.2.2]; omega
          rw [this]
        · rw [if_neg hj, if_neg]
          rintro ⟨h0, k', hk', e⟩
          rcases List.mem_cons.1 hk' with rfl | hk'
          · exact hj ⟨h0, e⟩
          · exact hl ⟨h0, k', hk', e⟩
  rw [storeIdx_eq]
  funext j
  refine (key (List.finRange 16) _ j).trans ?_
  have hd := d.isLt
  unfold part
  by_cases hr : (j 0).val = r
  · by_cases hb : 8 * f0 ≤ (j 1).val ∧ (j 1).val < 8 * (f0 + n)
    · by_cases he : (j 1).val % 8 = d.val
      · rw [if_pos ⟨hr, ⟨(j 1).val / 8 - f0, by omega⟩, List.mem_finRange _, by simp only; omega, by simp only; omega⟩,
          if_pos ⟨hr, hb.1, hb.2, by omega⟩]
        have : (⟨(j 1).val % 8, Nat.mod_lt _ (by decide)⟩ : Fin 8) = d := Fin.ext he
        rw [this]
      · rw [if_neg (by rintro ⟨_, k, _, _, e⟩; omega)]
        by_cases hlt : (j 1).val % 8 < d.val
        · rw [if_pos ⟨hr, hb.1, hb.2, hlt⟩, if_pos ⟨hr, hb.1, hb.2, by omega⟩]
        · rw [if_neg (fun H => hlt H.2.2.2), if_neg (fun H => he (by have := H.2.2.2; omega))]
    · rw [if_neg (by rintro ⟨_, k, _, _, e⟩; omega), if_neg (fun H => hb ⟨H.2.1, H.2.2.1⟩),
        if_neg (fun H => hb ⟨H.2.1, H.2.2.1⟩)]
  · rw [if_neg (fun H => hr H.1), if_neg (fun H => hr H.1), if_neg (fun H => hr H.1)]

end Cert.Proof.KernelIdeal
end
-- ==== Proof.KernelIdeal.Setup.lean ====
module

public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.KernelIdeal.Vals
/-! The program as the launch theorem sees it: its one SparseCore call, the resource algebra, the memrefs. -/
@[expose] public section
noncomputable section
namespace Cert.Proof.KernelIdeal
open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Net

variable {F : FTy → Type}

/-! ## The program as the launch theorem sees it -/

/-- The labels of the whole program. -/
abbrev ΛP : Labels := Pipeline.Sig Λ₀ (Fin 0) fun p => (pcfgs (F := F) p).Adm
/-- The launch configuration. -/
abbrev K : SparseCore.Cfg τ sig (ΛP (F := F)) 1 := sc (F := F)
/-- Sixteen tiles a SparseCore. -/
theorem nSub_zero : (K (F := F)).nSub 0 = 16 := rfl
/-- Two SparseCores. -/
theorem nCore_zero : (K (F := F)).nCore 0 = 2 := rfl
/-- The body table of the whole program. -/
abbrev D [FloatOps F] : Defs nD τ sig (Elt F) (ΛP (F := F)) := Pipeline.defs pcfgs defs₀
/-- No thread loops without a bound, so the variants are trivial. -/
abbrev 𝒱₀ : Variants := Variants.none
/-- The variants of the whole program. -/
abbrev 𝒱 : Variants := 𝒱₀.lift
/-- The variant every thread starts at. -/
abbrev v₀ : 𝒱.V := Sum.inl none

/-- The launch configuration's side conditions. -/
theorem facts : (K (F := F)).Facts :=
  ⟨show sc_start ≠ sc_taskDone by decide,
    show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The resource algebra: the handshakes' rounds, the transfers' counters -/

/-- The handshakes' rounds. -/
abbrev UH : Type := URounds (GSem nD τ sig) ℕ
/-- The rounds and the local transfers' counters. -/
abbrev UU : Type := UH × Counters

local notation "𝕄" => MT nD τ sig (HIx 1) (Elt F) ℕ UU ℕ

/-- The handshakes' embedding. -/
abbrev EH : Emb UH (MT nD τ sig (HIx 1) (Elt F) ℕ UU ℕ) := embL

/-! ## The memrefs of the body -/

/-- The input. -/
abbrev mX : Memref sig .scVector .hbm S4096x5200 .f32 := Memref.whole main_arg0_scv
/-- The padded scales. -/
abbrev mA : Memref sig .scVector .hbm S32 .f32 := Memref.whole main_v0_scv
/-- The padded shifts. -/
abbrev mB : Memref sig .scVector .hbm S32 .f32 := Memref.whole main_v1_scv
/-- The result. -/
abbrev mO : Memref sig .scVector .hbm S4096x208 .f32 := Memref.whole main_v2_scv
/-- A tile's copy of the scales. -/
abbrev sA : Memref sig .scVector .vmem S32 .f32 := Memref.whole cc0_scratch0
/-- A tile's copy of the shifts. -/
abbrev sB : Memref sig .scVector .vmem S32 .f32 := Memref.whole cc0_scratch1
/-- The first input slab. -/
abbrev sX0 : Memref sig .scVector .vmem S8x5200 .f32 := Memref.whole cc0_scratch2
/-- The second input slab. -/
abbrev sX1 : Memref sig .scVector .vmem S8x5200 .f32 := Memref.whole cc0_scratch3
/-- The output slab. -/
abbrev sO : Memref sig .scVector .vmem S8x208 .f32 := Memref.whole cc0_scratch4

/-- The SparseCore of a grid point. -/
abbrev cV (L : grid0.Coords) : Fin τ.nSC := (L 0).castLE hcore0
/-- The subcore of a grid point. -/
abbrev jV (L : grid0.Coords) : Fin τ.nSub := (L 1).castLE hsub0
/-- The thread of a grid point on device `d`. -/
abbrev thr (d : Dev nD) (L : grid0.Coords) : Thread nD τ := V d (cV L) (jV L)

end Cert.Proof.KernelIdeal
end
-- ==== Proof.KernelIdeal.Row.lean ====
module

public import proofs.«01_k».proof.Proof.KernelIdeal.Setup
/-! One row of a slab: from a slab held, the row body leaves the row of the output slab at its value. -/
@[expose] public section
noncomputable section
namespace Cert.Proof.KernelIdeal
open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Net

variable {F : FTy → Type} [FloatOps F]

local notation "𝕄" => MT nD τ sig (HIx 1) (Elt F) ℕ UU ℕ

variable (d : Dev nD) (L : grid0.Coords)

/-- The weakest precondition of a tile's program. -/
abbrev wpT {α : Type} (p : TileProg F L α) (Q : α → sProp 𝕄) : sProp 𝕄 :=
  wp frame (wpE (defs₀ (F := F)) 𝒱₀ (thr d L) none) Set.univ p Q

/-- A gather of row `r` reads the words `gatv` names. -/
theorem wp_gat {A : Memref sig .scVector .vmem S8x5200 .f32} {f : Buf (Elt F) (A.view.loc (thr d L))}
    {xb : Vec F S8x5200 .f32} (hrd : (A.access (.whole S8x5200)).read (Elt F) f = xb)
    {v c : IVec S16 32} (r f0 n : ℕ) (hr : r < 8) (hv : ∀ x, (v x).toNat = r)
    (hc : ∀ x : S16.Idx, (c x).toNat = min (f0 + (x 0).val + 26 * n) 5199)
    {α : Type} {k : Vec F S16 .f32 → TileProg F L α} {Q : α → sProp 𝕄} :
    (A.view.loc (thr d L) ↦{fullShare} f : sProp 𝕄)
      ⊢ iprop(((A.view.loc (thr d L) ↦{fullShare} f) -∗ wpT d L (k (gatv xb r f0 n)) Q)
        -∗ wpT d L (gat L A v c >>= k) Q) := by
  have hchk : k0_chk1 v c := fun a x =>
    match a with
    | 0 => lt_of_eq_of_lt (hv x) hr
    | 1 => lt_of_eq_of_lt (hc x) (Nat.lt_succ_of_le (Nat.min_le_right _ _))
  have hval : ∀ h, loadIdx ((A.access (.whole S8x5200)).read (Elt F) f) ![v, c] h = gatv xb r f0 n := by
    intro h
    rw [hrd]
    funext x
    unfold loadIdx gatv
    congr 1
    funext a
    match a with
    | 0 => exact Fin.ext ((hv x).trans (Nat.mod_eq_of_lt hr).symm)
    | 1 => exact Fin.ext (hc x)
  unfold gat wpT
  simp only [Prog.lift, Prog.bind_op, Prog.bind_ret]
  rw [wp_assume_of _ _ _ _ hchk]
  iintro H Hk
  iapply (SparseCore.wp_vectorLoadIdx 𝒱₀ (thr d L) none Set.univ (base := A) (S := Finset.univ)
    (q := fullShare) (Finset.subset_univ _)) $$ H
  iintro H
  rw [hval]
  iapply Hk
  iexact H

/-- One trip over row `r`: the columns move on by one trip and the registers by one step. -/
theorem wp_trip {A : Memref sig .scVector .vmem S8x5200 .f32} {f : Buf (Elt F) (A.view.loc (thr d L))}
    {xb : Vec F S8x5200 .f32} (hrd : (A.access (.whole S8x5200)).read (Elt F) f = xb)
    {v : IVec S16 32} (s : FVec F S16 .f32) (col : IVec S16 32 → ℕ → IVec S16 32)
    (r f0 k : ℕ) (hr : r < 8) (hf : f0 ≤ 13) (hk : k < 25) (hv : ∀ x, (v x).toNat = r)
    (p : IVec S16 32 × R8 (FVec F S16 .f32))
    (hcol : ∀ u, u < 8 → ∀ x : S16.Idx,
      (col p.1 u x).toNat = min (f0 + (x 0).val + 26 * (8 * k + u)) 5199)
    (hp : ∀ x : S16.Idx, (p.1 x).toNat = f0 + (x 0).val + 208 * k)
    (hreg : p.2 = regs s xb r f0 k) :
    (A.view.loc (thr d L) ↦{fullShare} f : sProp 𝕄)
      ⊢ wpT d L (tripProg L A v s col p) fun p' =>
          iprop(⌜(∀ x : S16.Idx, (p'.1 x).toNat = f0 + (x 0).val + 208 * (k + 1))
            ∧ p'.2 = regs s xb r f0 (k + 1)⌝ ∗ A.view.loc (thr d L) ↦{fullShare} f) := by
  unfold tripProg
  iintro H
  iapply (wp_gat d L hrd r f0 (8 * k + 0) hr hv (hcol 0 (by decide))) $$ H; iintro H
  iapply (wp_gat d L hrd r f0 (8 * k + 1) hr hv (hcol 1 (by decide))) $$ H; iintro H
  iapply (wp_gat d L hrd r f0 (8 * k + 2) hr hv (hcol 2 (by decide))) $$ H; iintro H
  iapply (wp_gat d L hrd r f0 (8 * k + 3) hr hv (hcol 3 (by decide))) $$ H; iintro H
  iapply (wp_gat d L hrd r f0 (8 * k + 4) hr hv (hcol 4 (by decide))) $$ H; iintro H
  iapply (wp_gat d L hrd r f0 (8 * k + 5) hr hv (hcol 5 (by decide))) $$ H; iintro H
  iapply (wp_gat d L hrd r f0 (8 * k + 6) hr hv (hcol 6 (by decide))) $$ H; iintro H
  iapply (wp_gat d L hrd r f0 (8 * k + 7) hr hv (hcol 7 (by decide))) $$ H; iintro H
  rw [wpT, wp_pure]
  imodintro
  isplitr
  · ipureintro
    refine ⟨fun x => ?_, ?_⟩
    · have := lane_lt x
      rw [addi_broadcast_toNat p.1 208 _ x (hp x) (by omega)]; omega
    · rw [hreg]; rfl
  · iexact H

/-- One scatter of row `r` into the output slab. -/
theorem wp_sto (g : Vec F S8x208 .f32) (r f0 n : ℕ) (w : Fin 8 → FVec F S16 .f32) (e : Fin 8)
    {v c : IVec S16 32} {m : IVec S16 1} (hr : r < 8)
    (hv : ∀ x, (v x).toNat = r) (hm : ∀ x, m x = 1 ↔ (x 0).val < n) (hn : n ≤ 16)
    (hc : ∀ x : S16.Idx, (x 0).val < n → (c x).toNat = 8 * (f0 + (x 0).val) + e.val)
    (hc' : ∀ x, (c x).toNat < 208)
    {α : Type} {k : Unit → TileProg F L α} {Q : α → sProp 𝕄} :
    (sO.view.loc (thr d L) ↦{fullShare} part g r f0 n w e.val : sProp 𝕄)
      ⊢ iprop(((sO.view.loc (thr d L) ↦{fullShare} part g r f0 n w (e.val + 1)) -∗ wpT d L (k ()) Q)
        -∗ wpT d L (sto L sO v c (w e) m >>= k) Q) := by
  have hchk : k0_chk9 v c := fun a x =>
    match a with
    | 0 => lt_of_eq_of_lt (hv x) hr
    | 1 => hc' x
  unfold sto wpT
  simp only [Prog.lift, Prog.bind_op, Prog.bind_ret]
  rw [wp_assume_of _ _ _ _ hchk]
  have e1 := SparseCore.wp_vectorStoreIdx (F := F) (defs := defs₀) 𝒱₀ (thr d L) none Set.univ (base := sO)
    (idxs := ![v, c]) (v := w e) (mask := m) (add := false) (h := k0_idx9_inb v c hchk)
    (hs := View.stores_vmem_bits_univ h_S8x208 rfl) (k := k) (Q := Q)
    (f := part g r f0 n w e.val)
  have hset : (sO.access (.whole S8x208)).set = Finset.univ := Memref.set_access_whole cc0_scratch4
  have hread : (sO.access (.whole S8x208)).read (Elt F) (part g r f0 n w e.val)
      = part g r f0 n w e.val := Memref.read_access_whole (Elt F) cc0_scratch4 _
  have hwrite : ∀ f' w', (sO.access (.whole S8x208)).write (Elt F) f' w' Finset.univ = w' :=
    fun f' w' => Memref.write_access_whole_univ (Elt F) cc0_scratch4 f' w'
  rw [hset, hread, hwrite, storeIdx_part g r f0 n w e v c m _ hv hm hn hc] at e1
  exact e1

/-- The eight scatters of a group of features of row `r`. -/
theorem wp_sto8 (g : Vec F S8x208 .f32) (r f0 n : ℕ) (a b : Vec F S16 .f32) (R : R8 (FVec F S16 .f32))
    {v : IVec S16 32} {oc : ℕ → IVec S16 32} {m : IVec S16 1} (hr : r < 8)
    (hv : ∀ x, (v x).toNat = r) (hm : ∀ x, m x = 1 ↔ (x 0).val < n) (hn : n ≤ 16)
    (hc : ∀ e, e < 8 → ∀ x : S16.Idx, (x 0).val < n → (oc e x).toNat = 8 * (f0 + (x 0).val) + e)
    (hc' : ∀ e, e < 8 → ∀ x, (oc e x).toNat < 208)
    {α : Type} {k : Unit → TileProg F L α} {Q : α → sProp 𝕄} :
    (sO.view.loc (thr d L) ↦{fullShare} g : sProp 𝕄)
      ⊢ iprop(((sO.view.loc (thr d L) ↦{fullShare} part g r f0 n (fun e => outv a b (get8 R e)) 8)
          -∗ wpT d L (k ()) Q)
        -∗ wpT d L (sto8 L sO v oc a b R m >>= k) Q) := by
  unfold sto8
  simp only [bind_assoc]
  iintro H Hk
  have key : ∀ (e : ℕ) (he : e < 8) (rv : FVec F S16 .f32) (_ : get8 R ⟨e, he⟩ = rv)
      (k : Unit → TileProg F L α),
      (sO.view.loc (thr d L) ↦{fullShare} part g r f0 n (fun e => outv a b (get8 R e)) e : sProp 𝕄)
      ⊢ iprop(((sO.view.loc (thr d L) ↦{fullShare} part g r f0 n (fun e => outv a b (get8 R e)) (e + 1))
          -∗ wpT d L (k ()) Q)
        -∗ wpT d L (sto L sO v (oc e) (outv a b rv) m >>= k) Q) := by
    intro e he rv hrv k
    subst hrv
    exact wp_sto d L g r f0 n (fun e => outv a b (get8 R e)) ⟨e, he⟩ hr hv hm hn (hc e he) (hc' e he)
  ihave H0 := (Entails.of_eq (congrArg (fun g => (sO.view.loc (thr d L) ↦{fullShare} g : sProp 𝕄))
    (part_zero g r f0 n (fun e => outv a b (get8 R e))).symm)) $$ H
  iapply (key 0 (by decide) R.1 rfl _) $$ H0; iintro H
  iapply (key 1 (by decide) R.2.1 rfl _) $$ H; iintro H
  iapply (key 2 (by decide) R.2.2.1 rfl _) $$ H; iintro H
  iapply (key 3 (by decide) R.2.2.2.1 rfl _) $$ H; iintro H
  iapply (key 4 (by decide) R.2.2.2.2.1 rfl _) $$ H; iintro H
  iapply (key 5 (by decide) R.2.2.2.2.2.1 rfl _) $$ H; iintro H
  iapply (key 6 (by decide) R.2.2.2.2.2.2.1 rfl _) $$ H; iintro H
  iapply (key 7 (by decide) R.2.2.2.2.2.2.2 rfl _) $$ H; iintro H
  iapply Hk
  iexact H

/-- The loop over the list's positions: from the first columns and the least registers, twenty-five trips. -/
theorem wp_loop (l : Scf.Loop 32) (hok : l.OK) (hl : l.trips = 25)
    {A : Memref sig .scVector .vmem S8x5200 .f32} {f : Buf (Elt F) (A.view.loc (thr d L))}
    {xb : Vec F S8x5200 .f32} (hrd : (A.access (.whole S8x5200)).read (Elt F) f = xb)
    {v : IVec S16 32} (s : FVec F S16 .f32) (col : IVec S16 32 → ℕ → IVec S16 32)
    (r f0 : ℕ) (hr : r < 8) (hf : f0 ≤ 13) (hv : ∀ x, (v x).toNat = r)
    (hcol : ∀ (a : IVec S16 32) (k u : ℕ), k < 25 → u < 8 →
      (∀ x : S16.Idx, (a x).toNat = f0 + (x 0).val + 208 * k) →
      ∀ x : S16.Idx, (col a u x).toNat = min (f0 + (x 0).val + 26 * (8 * k + u)) 5199)
    (a : IVec S16 32) (ha : ∀ x : S16.Idx, (a x).toNat = f0 + (x 0).val)
    {α : Type} {kk : IVec S16 32 × R8 (FVec F S16 .f32) → TileProg F L α} {Q : α → sProp 𝕄} :
    (A.view.loc (thr d L) ↦{fullShare} f : sProp 𝕄)
      ⊢ iprop((∀ acc, ⌜acc.2 = regs s xb r f0 25⌝ -∗ (A.view.loc (thr d L) ↦{fullShare} f)
          -∗ wpT d L (kk acc) Q)
        -∗ wpT d L (Scf.Loop.for l hok
            (a, k0_pay2, k0_pay2, k0_pay2, k0_pay2, k0_pay2, k0_pay2, k0_pay2, k0_pay2)
            (fun _ p => tripProg L A v s col p) >>= kk) Q) := by
  have h := Scf.wp_for_bind (M := 𝕄) Idealize.ShloMosaic.frame (wpE (defs₀ (F := F)) 𝒱₀ (thr d L) none) Set.univ
    l.lb l.ub l.st hok
    (a, k0_pay2, k0_pay2, k0_pay2, k0_pay2, k0_pay2, k0_pay2, k0_pay2, k0_pay2)
    (fun _ p => tripProg L A v s col p)
    (fun k acc => iprop(⌜(∀ x : S16.Idx, (acc.1 x).toNat = f0 + (x 0).val + 208 * k)
      ∧ acc.2 = regs s xb r f0 k⌝ ∗ A.view.loc (thr d L) ↦{fullShare} f))
    (by
      intro k acc
      have hk : k.val < 25 := lt_of_lt_of_eq k.isLt hl
      iintro ⟨%hp, H⟩
      iapply (wp_trip d L hrd s col r f0 k.val hr hf hk hv acc
        (fun u hu => hcol acc.1 k.val u hk hu hp.1) hp.1 hp.2)
      iexact H)
    (kk := kk) (Q := Q)
  iintro H Hk
  iapply h $$ [H]
  · isplitr
    · ipureintro
      exact ⟨ha, rfl⟩
    · iexact H
  iintro %acc ⟨%hp, H⟩
  iapply Hk $$ %acc %(by
    have e : Scf.trips l.lb l.ub l.st = 25 := hl
    rw [← e]; exact hp.2) H

/-- The sixteen words a load reads out of the first table. -/
theorem readA_win (o : ℕ) (ho : o + 16 ≤ 32) (inb) (f : Vec F S32 .f32) :
    sA.view.readAt (Elt F) (Rect.unit (s := S32) ![o] S16.size inb).toLoadRect f = win f o := by
  funext x
  show f _ = f _
  congr 1
  funext a
  match a with
  | 0 =>
    have := lane_lt x
    apply Fin.ext
    show o + 1 * (x 0).val = (o + (x 0).val) % 32
    omega

/-- The sixteen words a load reads out of the second table. -/
theorem readB_win (o : ℕ) (ho : o + 16 ≤ 32) (inb) (f : Vec F S32 .f32) :
    sB.view.readAt (Elt F) (Rect.unit (s := S32) ![o] S16.size inb).toLoadRect f = win f o := by
  funext x
  show f _ = f _
  congr 1
  funext a
  match a with
  | 0 =>
    have := lane_lt x
    apply Fin.ext
    show o + 1 * (x 0).val = (o + (x 0).val) % 32
    omega

/-- After both groups of scatters the row is at its value and the other rows as they were. -/
theorem part_part (av bv : Vec F S32 .f32) (xb : Vec F S8x5200 .f32) (g : Vec F S8x208 .f32) (r : ℕ)
    (j : S8x208.Idx) :
    part (part g r 0 16 (rowv av bv xb r 0) 8) r 13 13 (rowv av bv xb r 13) 8 j
      = if (j 0).val = r then slabv av bv xb j else g j := by
  have hj : (j 1).val < 208 := (j 1).isLt
  have hm : (j 1).val % 8 < 8 := Nat.mod_lt _ (by decide)
  unfold part slabv grp
  by_cases hr : (j 0).val = r
  · by_cases hc : (j 1).val < 104
    · rw [if_neg (fun H => absurd H.2.1 (by omega)), if_pos ⟨hr, by omega, by omega, hm⟩, if_pos hr]
      simp only [hc, if_true, hr]
    · rw [if_pos ⟨hr, by omega, by omega, hm⟩, if_pos hr]
      simp only [hc, if_false, hr]
  · rw [if_neg (fun H => hr H.1), if_neg (fun H => hr H.1), if_neg hr]

/-- The body of row `t`. -/
theorem wp_row {A : Memref sig .scVector .vmem S8x5200 .f32} {f : Buf (Elt F) (A.view.loc (thr d L))}
    {xb : Vec F S8x5200 .f32} (hrd : (A.access (.whole S8x5200)).read (Elt F) f = xb)
    (av bv : Vec F S32 .f32) (g : Vec F S8x208 .f32) (t : Fin k0_t2_loop.trips) :
    iprop((sA.view.loc (thr d L) ↦{fullShare} av) ∗ (sB.view.loc (thr d L) ↦{fullShare} bv)
        ∗ (A.view.loc (thr d L) ↦{fullShare} f) ∗ (sO.view.loc (thr d L) ↦{fullShare} g))
      ⊢ wpT d L (rowProg L sA sB A sO lanes k0_pay1 k0_pay2 t) fun _ =>
        iprop((sA.view.loc (thr d L) ↦{fullShare} av) ∗ (sB.view.loc (thr d L) ↦{fullShare} bv)
        ∗ (A.view.loc (thr d L) ↦{fullShare} f)
        ∗ (sO.view.loc (thr d L) ↦{fullShare}
            ((fun j => if (j 0).val = t.val then slabv av bv xb j else g j) : Vec F S8x208 .f32))) := by
  have ht : t.val < 8 := Nat.lt_of_lt_of_le t.isLt k0_t2_abs.2.1
  have hv := v46_toNat t
  rw [show rowProg (F := F) L sA sB A sO lanes k0_pay1 k0_pay2 t
    = rowProg L sA sB A sO lanes k0_pay1 k0_pay2 t >>= pure from (bind_pure _).symm]
  unfold rowProg wpT
  simp only [Prog.lift, Prog.bind_op, Prog.bind_ret, bind_assoc]
  iintro ⟨HA, HB, HX, HO⟩
  iapply (wp_load 𝒱₀ (thr d L) none Set.univ (m := sA) (S := Finset.univ) (Finset.subset_univ _)) $$ HA
  iintro HA
  iapply (wp_load 𝒱₀ (thr d L) none Set.univ (m := sB) (S := Finset.univ) (Finset.subset_univ _)) $$ HB
  iintro HB
  rw [readA_win 0 (by decide), readB_win 0 (by decide)]
  iapply (wp_loop d L k0_t3_loop k0_t3_ok (by decide) hrd (sgn (win av 0)) colA t.val 0 ht (by decide) hv
    colA_toNat (k0_pay141 lanes) (fun x => (addi_broadcast_toNat lanes 0 _ x (lanes_toNat x)
      (by have := lane_lt x; omega)).trans (by omega))) $$ HX
  iintro %acc %hacc HX
  rw [hacc]
  iapply (wp_sto8 d L g t.val 0 16 (win av 0) (win bv 0) (regs (sgn (win av 0)) xb t.val 0 25) ht hv
    (m := fun _ => 1#1) (fun x => ⟨fun _ => lane_lt x, fun _ => rfl⟩) (by decide)
    (fun e he x _ => ocA_toNat e he x)
    (fun e he x => by have := lane_lt x; rw [ocA_toNat e he x]; omega)) $$ HO
  iintro HO
  unfold wpT
  iapply (wp_load 𝒱₀ (thr d L) none Set.univ (m := sA) (S := Finset.univ) (Finset.subset_univ _)) $$ HA
  iintro HA
  iapply (wp_load 𝒱₀ (thr d L) none Set.univ (m := sB) (S := Finset.univ) (Finset.subset_univ _)) $$ HB
  iintro HB
  rw [readA_win 13 (by decide), readB_win 13 (by decide)]
  iapply (wp_loop d L k0_t4_loop k0_t4_ok (by decide) hrd (sgn (win av 13)) colB t.val 13 ht (by decide) hv
    colB_toNat (k0_pay161 lanes) (fun x => (addi_broadcast_toNat lanes 13 _ x (lanes_toNat x)
      (by have := lane_lt x; omega)).trans (by omega))) $$ HX
  iintro %acc' %hacc' HX
  rw [hacc']
  iapply (wp_sto8 d L _ t.val 13 13 (win av 13) (win bv 13) (regs (sgn (win av 13)) xb t.val 13 25) ht hv
    mask_iff (by decide)
    (fun e he x hx => by rw [ocB_toNat e he x]; omega)
    (fun e he x => by rw [ocB_toNat e he x]; omega)) $$ HO
  iintro HO
  rw [wpT, wp_pure]
  imodintro
  isplitl [HA]; · iexact HA
  isplitl [HB]; · iexact HB
  isplitl [HX]; · iexact HX
  rw [show ((fun j => if (j 0).val = t.val then slabv av bv xb j else g j) : Vec F S8x208 .f32)
    = part (part g t.val 0 16 (rowv av bv xb t.val 0) 8) t.val 13 13 (rowv av bv xb t.val 13) 8 from
    funext fun j => (part_part av bv xb g t.val j).symm]
  iexact HO

end Cert.Proof.KernelIdeal
end
-- ==== Proof.KernelIdeal.Copies.lean ====
module

public import proofs.«01_k».proof.Proof.KernelIdeal.Row
public import Idealize.ShloMosaic.Lib.Transfers
public import Idealize.ShloMosaic.Lib.Pipeline.Value
/-! One slab of eight rows, and the copies that move the slabs. -/
@[expose] public section
noncomputable section
namespace Cert.Proof.KernelIdeal
open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Net

variable {F : FTy → Type} [FloatOps F]

local notation "𝕄" => MT nD τ sig (HIx 1) (Elt F) ℕ UU ℕ

variable (d : Dev nD) (L : grid0.Coords)

/-! ## The rows of a slab -/

/-- The eight rows of a slab, one after the other, leave the output slab at its value. -/
theorem wp_slab {A : Memref sig .scVector .vmem S8x5200 .f32} {f : Buf (Elt F) (A.view.loc (thr d L))}
    {xb : Vec F S8x5200 .f32} (hrd : (A.access (.whole S8x5200)).read (Elt F) f = xb)
    (av bv : Vec F S32 .f32) (g : Vec F S8x208 .f32)
    {α : Type} {kk : Unit → TileProg F L α} {Q : α → sProp 𝕄} :
    iprop((sA.view.loc (thr d L) ↦{fullShare} av) ∗ (sB.view.loc (thr d L) ↦{fullShare} bv)
        ∗ (A.view.loc (thr d L) ↦{fullShare} f) ∗ (sO.view.loc (thr d L) ↦{fullShare} g))
      ⊢ iprop((iprop((sA.view.loc (thr d L) ↦{fullShare} av)
            ∗ (sB.view.loc (thr d L) ↦{fullShare} bv) ∗ (A.view.loc (thr d L) ↦{fullShare} f)
            ∗ (sO.view.loc (thr d L) ↦{fullShare} slabv av bv xb)) -∗ wpT d L (kk ⟨⟩) Q)
        -∗ wpT d L (Scf.Loop.for k0_t2_loop k0_t2_ok ⟨⟩
            (fun t _ => rowProg L sA sB A sO lanes k0_pay1 k0_pay2 t) >>= kk) Q) := by
  have h := Scf.wp_for_bind (M := 𝕄) Idealize.ShloMosaic.frame (wpE (defs₀ (F := F)) 𝒱₀ (thr d L) none) Set.univ
    k0_t2_loop.lb k0_t2_loop.ub k0_t2_loop.st k0_t2_ok ⟨⟩
    (fun t _ => rowProg L sA sB A sO lanes k0_pay1 k0_pay2 t)
    (fun k _ => iprop(∃ o : Vec F S8x208 .f32, ⌜∀ j : S8x208.Idx, (j 0).val < k → o j = slabv av bv xb j⌝
      ∗ (sA.view.loc (thr d L) ↦{fullShare} av) ∗ (sB.view.loc (thr d L) ↦{fullShare} bv)
      ∗ (A.view.loc (thr d L) ↦{fullShare} f) ∗ (sO.view.loc (thr d L) ↦{fullShare} o)))
    (by
      intro k acc
      iintro ⟨%o, %ho, H⟩
      iapply (wp_wand Idealize.ShloMosaic.frame (wpE (defs₀ (F := F)) 𝒱₀ (thr d L) none) Set.univ) $$ [H]
      · iapply (wp_row d L hrd av bv o k)
        iexact H
      iintro %_ ⟨HA, HB, HX, HO⟩
      iexists _
      isplitr; swap
      · isplitl [HA]; · iexact HA
        isplitl [HB]; · iexact HB
        isplitl [HX]; · iexact HX
        iexact HO
      ipureintro
      intro j hj
      by_cases e : (j 0).val = k.val
      · exact if_pos e
      · exact (if_neg e).trans (ho j (by omega)))
    (kk := kk) (Q := Q)
  iintro ⟨HA, HB, HX, HO⟩ Hk
  iapply h $$ [HA HB HX HO]
  · iexists g
    isplitr
    · ipureintro
      intro j hj
      exact absurd hj (Nat.not_lt_zero _)
    isplitl [HA]; · iexact HA
    isplitl [HB]; · iexact HB
    isplitl [HX]; · iexact HX
    iexact HO
  iintro %acc ⟨%o, %ho, HA, HB, HX, HO⟩
  iapply Hk
  isplitl [HA]; · iexact HA
  isplitl [HB]; · iexact HB
  isplitl [HX]; · iexact HX
  rw [show o = slabv av bv xb from funext fun j => ho j
    (lt_of_lt_of_eq (j 0).isLt (show 8 = Scf.trips k0_t2_loop.lb k0_t2_loop.ub k0_t2_loop.st by decide))]
  iexact HO

/-! ## The copies -/

/-- Where the counters of the local copies lie. -/
abbrev EC : UEmb Counters 𝕄 := countersEmb

/-- The words the waits of this kernel are recorded under. -/
abbrev ι₀ : HIx 1 := default

/-- Place `(r, c)` of the input, either coordinate held inside it. -/
def xcell (r c : ℕ) : S4096x5200.Idx
  | 0 => ⟨r % 4096, Nat.mod_lt _ (by decide)⟩
  | 1 => ⟨min c 5199, Nat.lt_succ_of_le (Nat.min_le_right _ _)⟩

/-- The eight rows of the input from row `n` on. -/
def xchunk (x : Vec F S4096x5200 .f32) (n : ℕ) : Vec F S8x5200 .f32 :=
  fun y => x (xcell (n + (y 0).val) (y 1).val)

/-- The tile owes some waits, and every one may be waited for. -/
def Owing (O : CellTallies nD τ sig (HIx 1)) : sProp 𝕄 := iprop(∃ W, owes (thr d L) O W)

/-- The slab buffer holds `xb`. -/
def Filled (A : Memref sig .scVector .vmem S8x5200 .f32) (xb : Vec F S8x5200 .f32) : sProp 𝕄 :=
  iprop(∃ f : Buf (Elt F) (A.view.loc (thr d L)), ⌜(A.access (.whole S8x5200)).read (Elt F) f = xb⌝
    ∗ (A.view.loc (thr d L) ↦{fullShare} f))

/-- A copy of the eight rows from `n` on into the slab buffer is in flight; the rest of the input's share is kept. -/
def InFlight (q : PosShare TreeShare) (x : Vec F S4096x5200 .f32)
    (A : Memref sig .scVector .vmem S8x5200 .f32) (sem : DmaSem sig) (n : ℕ) : sProp 𝕄 :=
  iprop(∃ S : Finset (Idx (mX.view.loc (thr d L))),
    (Transfers.Flight EC (thr d L) (.dma sem) ι₀ A.view.dmaCredit
      iprop(Filled d L A (xchunk x n) ∗ (mX.view.loc (thr d L) ↦[S]{q} x)))
    ∗ (mX.view.loc (thr d L) ↦[Finset.univ \ S]{q} x))

/-- What a slice of eight rows of the input reads. -/
theorem read_xslice (off : Fin 2 → ℕ) (inb : ∀ a, off a + S8x5200.size a ≤ S4096x5200.size a) (n : ℕ)
    (hoff : off = ![n, 0]) (x : Vec F S4096x5200 .f32) :
    (mX.slice (Rect.unit (s := S4096x5200) off S8x5200.size inb) (fun _ => rfl)).view.read (Elt F) x
      = xchunk x n := by
  subst hoff
  funext y
  have h0 : n + 8 ≤ 4096 := inb 0
  have y0 : (y 0).val < 8 := (y 0).isLt
  have y1 : (y 1).val < 5200 := (y 1).isLt
  show x _ = x _
  congr 1
  funext a
  match a with
  | 0 => exact Fin.ext (show n + 1 * (y 0).val = (n + (y 0).val) % 4096 by omega)
  | 1 => exact Fin.ext (show 0 + 1 * (y 1).val = min (y 1).val 5199 by omega)

/-- A slab buffer written whole reads what was written. -/
theorem read_write_whole {A : Memref sig .scVector .vmem S8x5200 .f32} (f : Buf (Elt F) (A.view.loc (thr d L)))
    (w : Vec F S8x5200 .f32) :
    (A.access (.whole S8x5200)).read (Elt F) (A.view.write (Elt F) f w Finset.univ) = w := by
  funext y
  have h := congrFun (View.read_write_univ (v := A.view) (Val := Elt F) f w) ((Rect.whole S8x5200).emb y)
  rw [Rect.emb_whole_apply] at h
  refine Eq.trans ?_ h
  show A.view.read (Elt F) _ ((Rect.whole S8x5200).emb y) = _
  rw [Rect.emb_whole_apply]

/-- Starting the copy of eight rows of the input into a slab buffer. -/
theorem wp_startX {A : Memref sig .scVector .vmem S8x5200 .f32} {sem : DmaSem sig} {off : Fin 2 → ℕ}
    {inb : ∀ a, off a + S8x5200.size a ≤ S4096x5200.size a} (n : ℕ) (hoff : off = ![n, 0])
    {q : PosShare TreeShare} {x : Vec F S4096x5200 .f32} {f : Buf (Elt F) (A.view.loc (thr d L))}
    {h1 h2 h3} {α : Type} {k : PUnit → TileProg F L α} {Q : α → sProp 𝕄} :
    iprop((mX.view.loc (thr d L) ↦{q} x) ∗ (A.view.loc (thr d L) ↦{fullShare} f)
        ∗ semVal (thr d L, .dma sem) 0)
      ⊢ iprop((InFlight d L q x A sem n -∗ wpT d L (k ⟨⟩) Q)
        -∗ wpT d L (.op (.enqueueDma (mX.slice (Rect.unit (s := S4096x5200) off S8x5200.size inb) (fun _ => rfl))
            (.here A) (.dma sem) h1 h2 h3) k) Q) := by
  iintro ⟨HX, HA, HS⟩ Hk
  ihave HX := (pointsTo_split_subset (q := q) (f := x) (S := Finset.univ)
    (ℓ := mX.view.loc (thr d L))
    (I := (mX.slice (Rect.unit (s := S4096x5200) off S8x5200.size inb) (fun _ => rfl)).view.set)
    (Finset.subset_univ _)).1 $$ HX
  icases HX with ⟨HX, HR⟩
  unfold wpT
  iapply (Transfers.wp_dmaLocal EC 𝒱₀ (thr d L) none (via := .same)
    (src := mX.slice (Rect.unit (s := S4096x5200) off S8x5200.size inb) (fun _ => rfl)) (dst := A)
    ι₀ A.view.dmaCredit rfl (View.amount_pos _ (.dma sem) (show 0 < S8x5200.numel by decide))
    (Finset.subset_univ _)) $$ [HX HA HS]
  · isplitl [HX]; · iexact HX
    isplitl [HA]; · iexact HA
    iexact HS
  iintro HF
  iapply Hk
  unfold InFlight
  iexists _
  isplitl [HF]; swap
  · iexact HR
  iapply (Transfers.Flight_mono EC (thr d L) ?_) $$ HF
  iintro ⟨HA, HX⟩
  isplitl [HA]; swap
  · iexact HX
  unfold Filled
  iexists _
  isplitr; swap
  · iexact HA
  ipureintro
  exact (read_write_whole d L _ _).trans (read_xslice off inb n hoff x)

/-- Waiting for a copy in flight: the slab buffer holds the rows and the input's share is whole again. -/
theorem wp_waitX {A : Memref sig .scVector .vmem S8x5200 .f32} {sem : DmaSem sig} {off : Fin 2 → ℕ}
    {inb : ∀ a, off a + S8x5200.size a ≤ S4096x5200.size a} (n : ℕ)
    {q : PosShare TreeShare} {x : Vec F S4096x5200 .f32} {O : CellTallies nD τ sig (HIx 1)}
    {h1 h2} {α : Type} {k : PUnit → TileProg F L α} {Q : α → sProp 𝕄} :
    iprop(InFlight d L q x A sem n ∗ Owing d L O ∗ Transfers.MayWaits (thr d L) ι₀ O)
      ⊢ iprop((iprop((mX.view.loc (thr d L) ↦{q} x) ∗ Filled d L A (xchunk x n)
            ∗ semVal (thr d L, .dma sem) 0 ∗ Owing d L O) -∗ wpT d L (k ⟨⟩) Q)
        -∗ wpT d L (.op (.waitDma2 sem (mX.slice (Rect.unit (s := S4096x5200) off S8x5200.size inb) (fun _ => rfl))
            A h1 h2) k) Q) := by
  unfold InFlight Owing
  iintro ⟨⟨%S, HF, HR⟩, ⟨%W, HO⟩, Hmw⟩ Hk
  unfold wpT
  ihave Hm := (Transfers.MayWaits.elim (.dma sem)) $$ Hmw
  iapply (Transfers.wp_waitLocalO EC 𝒱₀ (thr d L) none ι₀ (N := A.view.dmaCredit) rfl) $$ [HF HO Hm]
  · isplitl [HF]; · iexact HF
    isplitl [HO]; · iexact HO
    iexact Hm
  iintro ⟨⟨HA, HX⟩, HS, HO⟩
  iapply Hk
  isplitl [HX HR]
  · iapply (pointsTo_split_subset (q := q) (f := x) (S := Finset.univ)
      (ℓ := mX.view.loc (thr d L)) (I := S) (Finset.subset_univ _)).2
    isplitl [HX]; · iexact HX
    iexact HR
  isplitl [HA]; · iexact HA
  isplitl [HS]; · iexact HS
  iexists _
  iexact HO

/-- A table copied whole into the tile's memory, and waited for. -/
theorem wp_copyTab {M : Memref sig .scVector .hbm S32 .f32}
    {T : Memref sig .scVector .vmem S32 .f32} {sem : DmaSem sig}
    (hM : M.view.set = Finset.univ)
    {q : PosShare TreeShare} {a : Buf (Elt F) (M.view.loc (thr d L))} {f : Buf (Elt F) (T.view.loc (thr d L))}
    {O : CellTallies nD τ sig (HIx 1)} {h1 h2 h3 h4 h5} {α : Type} {k : PUnit → TileProg F L α} {Q : α → sProp 𝕄} :
    iprop((M.view.loc (thr d L) ↦{q} a) ∗ (T.view.loc (thr d L) ↦{fullShare} f)
        ∗ semVal (thr d L, .dma sem) 0 ∗ Owing d L O ∗ Transfers.MayWaits (thr d L) ι₀ O)
      ⊢ iprop((iprop((M.view.loc (thr d L) ↦{q} a)
            ∗ (T.view.loc (thr d L) ↦{fullShare} (T.view.write (Elt F) f (M.view.read (Elt F) a) Finset.univ))
            ∗ semVal (thr d L, .dma sem) 0 ∗ Owing d L O) -∗ wpT d L (k ⟨⟩) Q)
        -∗ wpT d L (.op (.enqueueDma M (.here T) (.dma sem) h1 h2 h3)
            fun _ => .op (.waitDma2 sem M T h4 h5) k) Q) := by
  unfold Owing
  iintro ⟨HM, HT, HS, ⟨%W, HO⟩, Hmw⟩ Hk
  unfold wpT
  iapply (Transfers.wp_dmaLocal EC 𝒱₀ (thr d L) none (via := .same) (src := M) (dst := T)
    ι₀ T.view.dmaCredit rfl (View.amount_pos _ (.dma sem) (show 0 < S32.numel by decide))
    (Finset.subset_univ _)) $$ [HM HT HS]
  · isplitl [HM]
    · rw [hM]; iexact HM
    isplitl [HT]; · iexact HT
    iexact HS
  iintro HF
  ihave Hm := (Transfers.MayWaits.elim (.dma sem)) $$ Hmw
  iapply (Transfers.wp_waitLocalO EC 𝒱₀ (thr d L) none ι₀ (N := T.view.dmaCredit) rfl) $$ [HF HO Hm]
  · isplitl [HF]; · iexact HF
    isplitl [HO]; · iexact HO
    iexact Hm
  iintro ⟨⟨HT, HM⟩, HS, HO⟩
  iapply Hk
  isplitl [HM]
  · rw [hM]; iexact HM
  isplitl [HT]; · iexact HT
  isplitl [HS]; · iexact HS
  iexists _
  iexact HO

/-- An output slab copied to eight rows of the result inside the elements held, and waited for. -/
theorem wp_storeO {sem : DmaSem sig} {off : Fin 2 → ℕ}
    {inb : ∀ a, off a + S8x208.size a ≤ S4096x208.size a}
    {T : Finset S4096x208.Idx} (hT : (Rect.unit (s := S4096x208) off S8x208.size inb).set ⊆ T)
    {o : Vec F S4096x208 .f32} {w : Vec F S8x208 .f32}
    {O : CellTallies nD τ sig (HIx 1)} {h1 h2 h3 h4 h5} {α : Type} {k : PUnit → TileProg F L α} {Q : α → sProp 𝕄} :
    iprop((mO.view.loc (thr d L) ↦[T]{fullShare} o) ∗ (sO.view.loc (thr d L) ↦{fullShare} w)
        ∗ semVal (thr d L, .dma sem) 0 ∗ Owing d L O ∗ Transfers.MayWaits (thr d L) ι₀ O)
      ⊢ iprop((iprop((mO.view.loc (thr d L) ↦[T]{fullShare} (updateSlice o w off ⟨rfl, inb⟩ : Vec F S4096x208 .f32))
            ∗ (sO.view.loc (thr d L) ↦{fullShare} w)
            ∗ semVal (thr d L, .dma sem) 0 ∗ Owing d L O) -∗ wpT d L (k ⟨⟩) Q)
        -∗ wpT d L (.op (.enqueueDma sO
              (.here (mO.slice (Rect.unit (s := S4096x208) off S8x208.size inb) (fun _ => rfl))) (.dma sem) h1 h2 h3)
            fun _ => .op (.waitDma2 sem sO
              (mO.slice (Rect.unit (s := S4096x208) off S8x208.size inb) (fun _ => rfl)) h4 h5) k) Q) := by
  have hset : (mO.slice (Rect.unit (s := S4096x208) off S8x208.size inb) (fun _ => rfl)).view.set
      = (Rect.unit (s := S4096x208) off S8x208.size inb).set := View.set_slice_whole _ _
  have hsrc : sO.view.set = Finset.univ := View.set_whole _
  have hw : (mO.slice (Rect.unit (s := S4096x208) off S8x208.size inb) (fun _ => rfl)).view.write (Elt F) o
      (ReadAs.apply .same (sO.view.read (Elt F) w)) Finset.univ
      = (updateSlice o w off ⟨rfl, inb⟩ : Vec F S4096x208 .f32) :=
    View.write_whole_slice_unit main_v2_scv off S8x208.size inb o w
  unfold Owing
  iintro ⟨HM, HT, HS, ⟨%W, HO⟩, Hmw⟩ Hk
  unfold wpT
  iapply (Transfers.wp_dmaLocal EC 𝒱₀ (thr d L) none (via := .same) (src := sO)
    (dst := mO.slice (Rect.unit (s := S4096x208) off S8x208.size inb) (fun _ => rfl)) (Sd := T)
    ι₀ _ rfl (View.amount_pos _ (.dma sem) (show 0 < S8x208.numel by decide))
    (hset.trans_subset hT)) $$ [HM HT HS]
  · isplitl [HT]
    · rw [hsrc]; iexact HT
    isplitl [HM]; · iexact HM
    iexact HS
  iintro HF
  ihave Hm := (Transfers.MayWaits.elim (.dma sem)) $$ Hmw
  iapply (Transfers.wp_waitLocalO EC 𝒱₀ (thr d L) none ι₀ rfl) $$ [HF HO Hm]
  · isplitl [HF]; · iexact HF
    isplitl [HO]; · iexact HO
    iexact Hm
  iintro ⟨⟨HM, HT⟩, HS, HO⟩
  iapply Hk
  isplitl [HM]
  · rw [← hw]; iexact HM
  isplitl [HT]
  · rw [hsrc]; iexact HT
  isplitl [HS]; · iexact HS
  iexists _
  iexact HO

end Cert.Proof.KernelIdeal
end
-- ==== Proof.KernelIdeal.Pair.lean ====
module

public import proofs.«01_k».proof.Proof.KernelIdeal.Copies
/-! One tile's loop over its sixteen chunks: two slabs a trip, the next chunk in flight. -/
@[expose] public section
noncomputable section
namespace Cert.Proof.KernelIdeal
open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Net

variable {F : FTy → Type} [FloatOps F]

local notation "𝕄" => MT nD τ sig (HIx 1) (Elt F) ℕ UU ℕ

variable (d : Dev nD) (L : grid0.Coords)

/-! ## The rows of the result -/

/-- Place `(r, c)` of a slab of the output, either coordinate held inside it. -/
def scell (r c : ℕ) : S8x208.Idx
  | 0 => ⟨r % 8, Nat.mod_lt _ (by decide)⟩
  | 1 => ⟨c % 208, Nat.mod_lt _ (by decide)⟩

/-- The whole result: every chunk of eight rows is the output slab of its chunk of the input. -/
def outF (av bv : Vec F S32 .f32) (x : Vec F S4096x5200 .f32) : Vec F S4096x208 .f32 := fun j =>
  slabv av bv (xchunk x (8 * ((j 0).val / 8))) (scell ((j 0).val % 8) (j 1).val)

/-- The first row of a tile. -/
def row0 (L : grid0.Coords) : ℕ := 256 * (L 1).val + 128 * (L 0).val

/-- The elements of the result a tile writes. -/
def tileSet (c i : ℕ) : Finset S4096x208.Idx :=
  Finset.univ.filter fun j => (j 0).val / 128 = 2 * i + c

/-- The result with one chunk of eight rows put in place. -/
theorem updateSlice_chunk (av bv : Vec F S32 .f32) (x : Vec F S4096x5200 .f32) (o : Vec F S4096x208 .f32)
    (n : ℕ) (off : Fin 2 → ℕ) (hoff : off = ![8 * n, 0]) (h) (j : S4096x208.Idx) :
    (updateSlice o (slabv av bv (xchunk x (8 * n))) off h : Vec F S4096x208 .f32) j
      = if (j 0).val / 8 = n then outF av bv x j else o j := by
  subst hoff
  have j1 : (j 1).val < 208 := (j 1).isLt
  unfold updateSlice
  by_cases hn : (j 0).val / 8 = n
  · rw [if_pos hn, dif_pos]
    · unfold outF
      rw [hn]
      congr 1
      funext a
      match a with
      | 0 => exact Fin.ext (show (j 0).val - 8 * n = ((j 0).val % 8) % 8 by omega)
      | 1 => exact Fin.ext (show (j 1).val - 0 = (j 1).val % 208 by omega)
    · intro a
      match a with
      | 0 => exact ⟨show 8 * n ≤ (j 0).val by omega, show (j 0).val < 8 * n + 8 by omega⟩
      | 1 => exact ⟨Nat.zero_le _, show (j 1).val < 0 + 208 by omega⟩
  · rw [if_neg hn, dif_neg]
    intro H
    have h0 : 8 * n ≤ (j 0).val ∧ (j 0).val < 8 * n + 8 := H 0
    omega

/-- The tile's first `n` chunks of the result are in place. -/
def Done (av bv : Vec F S32 .f32) (x : Vec F S4096x5200 .f32) (n : ℕ) : sProp 𝕄 :=
  iprop(∃ o : Vec F S4096x208 .f32,
    ⌜∀ j : S4096x208.Idx, row0 L / 8 ≤ (j 0).val / 8 → (j 0).val / 8 < row0 L / 8 + n → o j = outF av bv x j⌝
    ∗ (mO.view.loc (thr d L) ↦[tileSet (L 0).val (L 1).val]{fullShare} o))

/-- Writing chunk `n` of the tile out. -/
theorem wp_storeDone {sem : DmaSem sig} {off : Fin 2 → ℕ}
    {inb : ∀ a, off a + S8x208.size a ≤ S4096x208.size a} (av bv : Vec F S32 .f32) (x : Vec F S4096x5200 .f32)
    (n : ℕ) (hn : n < 16) (hoff : off = ![row0 L + 8 * n, 0])
    {O : CellTallies nD τ sig (HIx 1)} {h1 h2 h3 h4 h5} {α : Type} {k : PUnit → TileProg F L α} {Q : α → sProp 𝕄} :
    iprop(Done d L av bv x n ∗ (sO.view.loc (thr d L) ↦{fullShare} slabv av bv (xchunk x (row0 L + 8 * n)))
        ∗ semVal (thr d L, .dma sem) 0 ∗ Owing d L O ∗ Transfers.MayWaits (thr d L) ι₀ O)
      ⊢ iprop((iprop(Done d L av bv x (n + 1) ∗ (∃ w : Vec F S8x208 .f32, sO.view.loc (thr d L) ↦{fullShare} w)
            ∗ semVal (thr d L, .dma sem) 0 ∗ Owing d L O) -∗ wpT d L (k ⟨⟩) Q)
        -∗ wpT d L (.op (.enqueueDma sO
              (.here (mO.slice (Rect.unit (s := S4096x208) off S8x208.size inb) (fun _ => rfl))) (.dma sem) h1 h2 h3)
            fun _ => .op (.waitDma2 sem sO
              (mO.slice (Rect.unit (s := S4096x208) off S8x208.size inb) (fun _ => rfl)) h4 h5) k) Q) := by
  have e8 : row0 L + 8 * n = 8 * (row0 L / 8 + n) := by unfold row0; omega
  have l0 : (L 0).val < 2 := (L 0).isLt
  have hT : (Rect.unit (s := S4096x208) off S8x208.size inb).set ⊆ tileSet (L 0).val (L 1).val := by
    intro j hj
    have h0 := (Rect.mem_set_unit.mp hj) 0
    subst hoff
    have h0 : row0 L + 8 * n ≤ (j 0).val ∧ (j 0).val < row0 L + 8 * n + 8 := h0
    refine Finset.mem_filter.mpr ⟨Finset.mem_univ _, ?_⟩
    unfold row0 at h0
    omega
  rw [e8] at hoff ⊢
  unfold Done
  iintro ⟨⟨%o, %ho, HM⟩, HT, HS, HO, Hmw⟩ Hk
  iapply (wp_storeO d L (off := off) (inb := inb) hT) $$ [HM HT HS HO Hmw]
  · isplitl [HM]; · iexact HM
    isplitl [HT]; · iexact HT
    isplitl [HS]; · iexact HS
    isplitl [HO]; · iexact HO
    iexact Hmw
  iintro ⟨HM, HT, HS, HO⟩
  iapply Hk
  isplitl [HM]
  · iexists _
    isplitr; swap
    · iexact HM
    ipureintro
    intro j h0 h1
    refine (updateSlice_chunk av bv x o _ off hoff _ j).trans ?_
    by_cases e : (j 0).val / 8 = row0 L / 8 + n
    · rw [if_pos e]
    · rw [if_neg e]
      exact ho j h0 (by omega)
  isplitl [HT]; · iexists _; iexact HT
  isplitl [HS]; · iexact HS
  iexact HO

/-! ## One trip -/

/-- A slab buffer free: its input share back, the buffer at some contents, its semaphore at zero. -/
def Free (q : PosShare TreeShare) (x : Vec F S4096x5200 .f32)
    (A : Memref sig .scVector .vmem S8x5200 .f32) (sem : DmaSem sig) : sProp 𝕄 :=
  iprop((mX.view.loc (thr d L) ↦{q} x) ∗ (∃ f : Buf (Elt F) (A.view.loc (thr d L)), A.view.loc (thr d L) ↦{fullShare} f)
    ∗ semVal (thr d L, .dma sem) 0)

/-- The body of trip `g` of the loop over pairs of chunks. -/
abbrev pairProg (v2 : BitVec 32) : Fin k0_t1_loop.trips → Unit → TileProg F L Unit :=
  k0_t1_body L mX (Memref.isWhole_whole _) mA (Memref.isWhole_whole _) mB (Memref.isWhole_whole _) mO (Memref.isWhole_whole _)
    sA (Memref.isWhole_whole _) sB (Memref.isWhole_whole _) sX0 (Memref.isWhole_whole _) sX1 (Memref.isWhole_whole _)
    sO (Memref.isWhole_whole _) cc0_scratch5 cc0_scratch6 cc0_scratch7 cc0_scoped0 cc0_scoped1 v2 lanes

/-- The third copy of a trip is made on every trip but the last. -/
theorem cond1_iff : ∀ t : Fin k0_t1_loop.trips, k0_cond1 t = 1#1 ↔ t.val < 7 := by decide +kernel

/-- What the loop over pairs of chunks holds before trip `g`. -/
def PairInv (O : CellTallies nD τ sig (HIx 1)) (q q' : PosShare TreeShare) (av bv : Vec F S32 .f32)
    (x : Vec F S4096x5200 .f32) (g : ℕ) : sProp 𝕄 :=
  iprop((sA.view.loc (thr d L) ↦{fullShare} av) ∗ (sB.view.loc (thr d L) ↦{fullShare} bv)
    ∗ Done d L av bv x (2 * g) ∗ (∃ w : Vec F S8x208 .f32, sO.view.loc (thr d L) ↦{fullShare} w)
    ∗ semVal (thr d L, .dma cc0_scratch7.sem) 0
    ∗ Free d L q' x sX1 cc0_scratch6.sem
    ∗ (if g < 8 then InFlight d L q x sX0 cc0_scratch5.sem (row0 L + 8 * (2 * g))
        else Free d L q x sX0 cc0_scratch5.sem)
    ∗ Owing d L O ∗ Transfers.MayWaits (thr d L) ι₀ O)

/-- The second half of a trip: the wait for the second slab, its rows, and its output slab's copy. -/
def tailProg (g : Fin k0_t1_loop.trips) : TileProg F L Unit :=
  .op (.waitDma2 cc0_scratch6.sem
      (mX.slice (Rect.unit (s := S4096x5200) (k0_off2 L g) S8x5200.size (k0_off2_inb L g)) (fun _ => rfl)) sX1
      (View.wordExact_bits rfl) (Memref.isWhole_whole _).wordExact) fun _ =>
    (Scf.Loop.for k0_t2_loop k0_t2_ok ⟨⟩ fun t _ => rowProg L sA sB sX1 sO lanes k0_pay1 k0_pay2 t) >>= fun _ =>
    .op (.enqueueDma sO
        (.here (mO.slice (Rect.unit (s := S4096x208) (k0_off6 L g) S8x208.size (k0_off6_inb L g)) (fun _ => rfl)))
        (.dma cc0_scratch7.sem) (Memref.isWhole_whole _).wordExact (View.wordExact_bits rfl)
        ⟨Or.inl rfl, trivial⟩) fun _ =>
      .op (.waitDma2 cc0_scratch7.sem sO
        (mO.slice (Rect.unit (s := S4096x208) (k0_off6 L g) S8x208.size (k0_off6_inb L g)) (fun _ => rfl))
        (Memref.isWhole_whole _).wordExact (View.wordExact_bits rfl)) fun _ =>
        Pure.pure ⟨⟩

/-- The second half of a trip: the second slab is awaited, done and written out. -/
theorem wp_tail (O : CellTallies nD τ sig (HIx 1)) (q q' : PosShare TreeShare) (av bv : Vec F S32 .f32)
    (x : Vec F S4096x5200 .f32) (g : Fin k0_t1_loop.trips) (hg : g.val < 8)
    (o6 : k0_off6 L g = ![row0 L + 8 * (2 * g.val + 1), 0]) (w : Vec F S8x208 .f32) :
    iprop(InFlight d L q' x sX1 cc0_scratch6.sem (row0 L + 8 * (2 * g.val + 1))
        ∗ (sA.view.loc (thr d L) ↦{fullShare} av) ∗ (sB.view.loc (thr d L) ↦{fullShare} bv)
        ∗ Done d L av bv x (2 * g.val + 1) ∗ (sO.view.loc (thr d L) ↦{fullShare} w)
        ∗ semVal (thr d L, .dma cc0_scratch7.sem) 0
        ∗ (if g.val + 1 < 8 then InFlight d L q x sX0 cc0_scratch5.sem (row0 L + 8 * (2 * (g.val + 1)))
            else Free d L q x sX0 cc0_scratch5.sem)
        ∗ Owing d L O ∗ Transfers.MayWaits (thr d L) ι₀ O)
      ⊢ wpT d L (tailProg L g) fun _ => PairInv d L O q q' av bv x (g.val + 1) := by
  unfold tailProg
  unfold PairInv Free
  iintro ⟨HF1, HA, HB, HD, HO, HSo, HF0, HW, #Hmw⟩
  iapply (wp_waitX d L (row0 L + 8 * (2 * g.val + 1))) $$ [HF1 HW]
  · isplitl [HF1]; · iexact HF1
    isplitl [HW]; · iexact HW
    iexact Hmw
  iintro ⟨HX1, HB1, HS1, HW⟩
  unfold Filled
  icases HB1 with ⟨%f1, %hf1, HB1⟩
  iapply (wp_slab d L hf1 av bv w) $$ [HA HB HB1 HO]
  · isplitl [HA]; · iexact HA
    isplitl [HB]; · iexact HB
    isplitl [HB1]; · iexact HB1
    iexact HO
  iintro ⟨HA, HB, HB1, HO⟩
  iapply (wp_storeDone d L av bv x (2 * g.val + 1) (by omega) o6) $$ [HD HO HSo HW]
  · isplitl [HD]; · iexact HD
    isplitl [HO]; · iexact HO
    isplitl [HSo]; · iexact HSo
    isplitl [HW]; · iexact HW
    iexact Hmw
  iintro ⟨HD, HO, HSo, HW⟩
  rw [wpT, wp_pure]
  imodintro
  isplitl [HA]; · iexact HA
  isplitl [HB]; · iexact HB
  isplitl [HD]; · iexact HD
  isplitl [HO]; · iexact HO
  isplitl [HSo]; · iexact HSo
  isplitl [HX1 HB1 HS1]
  · isplitl [HX1]; · iexact HX1
    isplitl [HB1]; · iexists _; iexact HB1
    iexact HS1
  isplitl [HF0]; · iexact HF0
  isplitl [HW]; · iexact HW
  iexact Hmw

/-- A trip carries the loop's holdings from `g` to `g + 1`. -/
theorem wp_pair (O : CellTallies nD τ sig (HIx 1)) (q q' : PosShare TreeShare) (av bv : Vec F S32 .f32)
    (x : Vec F S4096x5200 .f32) (v2 : BitVec 32) (g : Fin k0_t1_loop.trips) (u : Unit) :
    PairInv d L O q q' av bv x g.val
      ⊢ wpT d L (pairProg L v2 g u) fun _ => PairInv d L O q q' av bv x (g.val + 1) := by
  have hg : g.val < 8 := Nat.lt_of_lt_of_le g.isLt k0_t1_abs.2.1
  have o2 : k0_off2 L g = ![row0 L + 8 * (2 * g.val + 1), 0] := by
    rw [k0_off2_eq]; congr 1; unfold row0; omega
  have o4 : k0_off4 L g = ![row0 L + 8 * (2 * g.val), 0] := by
    rw [k0_off4_eq]; congr 1; unfold row0; omega
  have o5 : k0_off5 L g = ![row0 L + 8 * (2 * (g.val + 1)), 0] := by
    rw [k0_off5_eq]; congr 1; unfold row0; omega
  have o6 : k0_off6 L g = ![row0 L + 8 * (2 * g.val + 1), 0] := by
    rw [k0_off6_eq]; congr 1; unfold row0; omega
  have ht := wp_tail d L O q q' av bv x g hg o6
  unfold PairInv at ht
  unfold PairInv pairProg k0_t1_body
  rw [if_pos hg]
  simp only [k0_part15_eq_skeleton, k0_part15_skel, t2_eq, t5_eq]
  simp only [Prog.lift, Prog.bind_op, Prog.bind_ret, bind_assoc, pure_bind]
  iintro ⟨HA, HB, HD, ⟨%w, HO⟩, HSo, HF1, HF0, HW, #Hmw⟩
  unfold Free
  icases HF1 with ⟨HX1, ⟨%f1, HB1⟩, HS1⟩
  iapply (wp_startX d L (row0 L + 8 * (2 * g.val + 1)) o2)
    $$ [HX1 HB1 HS1]
  · isplitl [HX1]; · iexact HX1
    isplitl [HB1]; · iexact HB1
    iexact HS1
  iintro HF1
  iapply (wp_waitX d L (row0 L + 8 * (2 * g.val))) $$ [HF0 HW]
  · isplitl [HF0]; · iexact HF0
    isplitl [HW]; · iexact HW
    iexact Hmw
  iintro ⟨HX0, HB0, HS0, HW⟩
  unfold Filled
  icases HB0 with ⟨%f0, %hf0, HB0⟩
  iapply (wp_slab d L hf0 av bv w) $$ [HA HB HB0 HO]
  · isplitl [HA]; · iexact HA
    isplitl [HB]; · iexact HB
    isplitl [HB0]; · iexact HB0
    iexact HO
  iintro ⟨HA, HB, HB0, HO⟩
  iapply (wp_storeDone d L av bv x (2 * g.val) (by omega) o4)
    $$ [HD HO HSo HW]
  · isplitl [HD]; · iexact HD
    isplitl [HO]; · iexact HO
    isplitl [HSo]; · iexact HSo
    isplitl [HW]; · iexact HW
    iexact Hmw
  iintro ⟨HD, ⟨%w', HO⟩, HSo, HW⟩
  unfold Free at ht
  by_cases hc : k0_cond1 g = 1#1
  · have h7 := (cond1_iff g).1 hc
    rw [dif_pos hc]
    simp only [Prog.bind_op, pure_bind]
    iapply (wp_startX d L (row0 L + 8 * (2 * (g.val + 1))) o5) $$ [HX0 HB0 HS0]
    · isplitl [HX0]; · iexact HX0
      isplitl [HB0]; · iexact HB0
      iexact HS0
    iintro HF0
    iapply (ht _)
    isplitl [HF1]; · iexact HF1
    isplitl [HA]; · iexact HA
    isplitl [HB]; · iexact HB
    isplitl [HD]; · iexact HD
    isplitl [HO]; · iexact HO
    isplitl [HSo]; · iexact HSo
    isplitl [HF0]
    · rw [if_pos (show g.val + 1 < 8 by omega)]
      iexact HF0
    isplitl [HW]; · iexact HW
    iexact Hmw
  · have h7 : ¬ g.val < 7 := fun h => hc ((cond1_iff g).2 h)
    rw [dif_neg hc]
    simp only [Prog.bind_op, pure_bind]
    iapply (ht _)
    isplitl [HF1]; · iexact HF1
    isplitl [HA]; · iexact HA
    isplitl [HB]; · iexact HB
    isplitl [HD]; · iexact HD
    isplitl [HO]; · iexact HO
    isplitl [HSo]; · iexact HSo
    isplitl [HX0 HB0 HS0]
    · rw [if_neg (show ¬ g.val + 1 < 8 by omega)]
      isplitl [HX0]; · iexact HX0
      isplitl [HB0]; · iexists _; iexact HB0
      iexact HS0
    isplitl [HW]; · iexact HW
    iexact Hmw

end Cert.Proof.KernelIdeal
end
-- ==== Proof.KernelIdeal.Tile.lean ====
module

public import proofs.«01_k».proof.Proof.KernelIdeal.Pair
/-! One tile's whole body, from its shares of the operands to its rows of the result. -/
@[expose] public section
noncomputable section
namespace Cert.Proof.KernelIdeal
open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Net

variable {F : FTy → Type} [FloatOps F]

local notation "𝕄" => MT nD τ sig (HIx 1) (Elt F) ℕ UU ℕ

variable (d : Dev nD) (L : grid0.Coords)

/-! ## The tile's own buffers and semaphores -/

/-- A DMA cell of the tile. -/
abbrev cellV (sem : DmaSem sig) : GSem nD τ sig := (thr d L, .dma sem)

/-- Taking one DMA cell out of a set of the tile's cells. -/
theorem take_cell (s : Finset (GSem nD τ sig)) (sem : DmaSem sig) (h : cellV d L sem ∈ s) :
    (bigSep s fun g => (semVal g 0 : sProp 𝕄))
      = iprop(semVal (cellV d L sem) 0 ∗ bigSep (s.erase (cellV d L sem)) fun g => semVal g 0) :=
  SparseCore.bigSep_erase' h

/-- Every DMA cell is the tile's own. -/
theorem own_cell (sem : DmaSem sig) (h : (SemLoc.dma sem : SemLoc sig).isScoped .scVector = true) :
    cellV d L sem ∈ ownCells (thr d L) := mem_ownCells.mpr ⟨rfl, h⟩

/-- Two cells of different semaphores differ. -/
theorem cell_ne {s s' : DmaSem sig} (h : s ≠ s') : cellV d L s ≠ cellV d L s' := fun e =>
  h (SemLoc.dma.inj (Prod.mk.inj e).2)

/-- The cells left over once the five the body uses are taken. -/
abbrev restCells : Finset (GSem nD τ sig) :=
  (((((ownCells (thr d L)).erase (cellV d L cc0_scoped0.sem)).erase (cellV d L cc0_scoped1.sem)).erase
    (cellV d L cc0_scratch5.sem)).erase (cellV d L cc0_scratch6.sem)).erase (cellV d L cc0_scratch7.sem)

/-- The tile's semaphores: the five the body uses and the rest. -/
theorem ownSems0_V :
    (ownSems0 (thr d L) : sProp 𝕄)
      = iprop(semVal (cellV d L cc0_scoped0.sem) 0 ∗ semVal (cellV d L cc0_scoped1.sem) 0
          ∗ semVal (cellV d L cc0_scratch5.sem) 0 ∗ semVal (cellV d L cc0_scratch6.sem) 0
          ∗ semVal (cellV d L cc0_scratch7.sem) 0 ∗ bigSep (restCells d L) fun g => semVal g 0) := by
  unfold SparseCore.Cfg.ownSems0
  rw [take_cell d L _ cc0_scoped0.sem (own_cell d L _ (by decide)),
    take_cell d L _ cc0_scoped1.sem (Finset.mem_erase.mpr ⟨cell_ne d L (by decide), own_cell d L _ (by decide)⟩),
    take_cell d L _ cc0_scratch5.sem (Finset.mem_erase.mpr ⟨cell_ne d L (by decide),
      Finset.mem_erase.mpr ⟨cell_ne d L (by decide), own_cell d L _ (by decide)⟩⟩),
    take_cell d L _ cc0_scratch6.sem (Finset.mem_erase.mpr ⟨cell_ne d L (by decide),
      Finset.mem_erase.mpr ⟨cell_ne d L (by decide),
      Finset.mem_erase.mpr ⟨cell_ne d L (by decide), own_cell d L _ (by decide)⟩⟩⟩),
    take_cell d L _ cc0_scratch7.sem (Finset.mem_erase.mpr ⟨cell_ne d L (by decide),
      Finset.mem_erase.mpr ⟨cell_ne d L (by decide), Finset.mem_erase.mpr ⟨cell_ne d L (by decide),
      Finset.mem_erase.mpr ⟨cell_ne d L (by decide), own_cell d L _ (by decide)⟩⟩⟩⟩)]

/-- A buffer of the tile as the device names it. -/
abbrev refV (b : Ref sig .scVector) : DevRef τ sig := (Proc.scVector (cV L) (jV L)).devRef b

/-- Taking one buffer out of a set of the tile's buffers. -/
theorem take_ref (s : Finset (DevRef τ sig)) (b : Ref sig .scVector) (h : refV L b ∈ s) :
    (bigSep s fun b => (iprop(∃ f, ((d, b) : Loc nD τ sig) ↦{fullShare} f) : sProp 𝕄))
      = iprop((∃ f, (thr d L).loc b ↦{fullShare} f)
          ∗ bigSep (s.erase (refV L b)) fun b => iprop(∃ f, ((d, b) : Loc nD τ sig) ↦{fullShare} f)) :=
  SparseCore.bigSep_erase' h

/-- Two different buffers have different names on the device. -/
theorem ref_ne {b b' : Ref sig .scVector} (h : b ≠ b') : refV L b ≠ refV L b' := fun e =>
  h (Proc.devRef_injective _ e)

/-- A buffer the tile owns is among its own. -/
theorem own_ref (b : Ref sig .scVector) (h : (refV L b).owner = .proc (Proc.scVector (cV L) (jV L))) :
    refV L b ∈ ownRefs (τ := τ) (.scVector (cV L) (jV L)) := SparseCore.Cfg.mem_ownRefs_of_owner h

/-- The buffers left over once the five scratches are taken. -/
abbrev restRefs : Finset (DevRef τ sig) :=
  (((((ownRefs (τ := τ) (.scVector (cV L) (jV L))).erase (refV L cc0_scratch0)).erase (refV L cc0_scratch1)).erase
    (refV L cc0_scratch2)).erase (refV L cc0_scratch3)).erase (refV L cc0_scratch4)

/-- The tile's buffers: the five scratches and the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ (∃ f, (thr d L).loc cc0_scratch4 ↦{fullShare} f)
          ∗ bigSep (restRefs L) fun b => iprop(∃ f, ((d, b) : Loc nD τ sig) ↦{fullShare} f)) := by
  unfold SparseCore.Cfg.ownBufs
  refine (take_ref d L _ cc0_scratch0 (own_ref L _ rfl)).trans ?_
  rw [take_ref d L _ cc0_scratch1 (Finset.mem_erase.mpr ⟨ref_ne L (by decide), own_ref L _ rfl⟩),
    take_ref d L _ cc0_scratch2 (Finset.mem_erase.mpr ⟨ref_ne L (by decide),
      Finset.mem_erase.mpr ⟨ref_ne L (by decide), own_ref L _ rfl⟩⟩),
    take_ref d L _ cc0_scratch3 (Finset.mem_erase.mpr ⟨ref_ne L (by decide), Finset.mem_erase.mpr ⟨ref_ne L (by decide),
      Finset.mem_erase.mpr ⟨ref_ne L (by decide), own_ref L _ rfl⟩⟩⟩),
    take_ref d L _ cc0_scratch4 (Finset.mem_erase.mpr ⟨ref_ne L (by decide), Finset.mem_erase.mpr ⟨ref_ne L (by decide),
      Finset.mem_erase.mpr ⟨ref_ne L (by decide), Finset.mem_erase.mpr ⟨ref_ne L (by decide), own_ref L _ rfl⟩⟩⟩⟩)]

/-! ## The body -/

/-- The tile's body as the body table calls it. -/
abbrev bodyProg : TileProg F L PUnit :=
  cc0__topk_body L mX (Memref.isWhole_whole _) mA (Memref.isWhole_whole _) mB (Memref.isWhole_whole _) mO (Memref.isWhole_whole _)
    sA (Memref.isWhole_whole _) sB (Memref.isWhole_whole _) sX0 (Memref.isWhole_whole _) sX1 (Memref.isWhole_whole _)
    sO (Memref.isWhole_whole _) cc0_scratch5 cc0_scratch6 cc0_scratch7 cc0_scoped0 cc0_scoped1

/-- The three operands at share `q`. -/
abbrev Ops (q : PosShare TreeShare) (x : Vec F S4096x5200 .f32) (a b : Vec F S32 .f32) : sProp 𝕄 :=
  iprop((mX.view.loc (thr d L) ↦{q} x) ∗ (mA.view.loc (thr d L) ↦{q} a) ∗ (mB.view.loc (thr d L) ↦{q} b))

/-- The loop over the pairs of chunks. -/
theorem wp_pairs (O : CellTallies nD τ sig (HIx 1)) (q q' : PosShare TreeShare) (a b : Vec F S32 .f32)
    (x : Vec F S4096x5200 .f32) (v2 : BitVec 32) {α : Type} {kk : Unit → TileProg F L α} {Q : α → sProp 𝕄} :
    (PairInv d L O q q' a b x 0 : sProp 𝕄)
      ⊢ iprop((PairInv d L O q q' a b x 8 -∗ wpT d L (kk ⟨⟩) Q)
        -∗ wpT d L (Scf.Loop.for k0_t1_loop k0_t1_ok ⟨⟩ (pairProg L v2) >>= kk) Q) := by
  have h := Scf.wp_for_bind (M := 𝕄) Idealize.ShloMosaic.frame (wpE (defs₀ (F := F)) 𝒱₀ (thr d L) none) Set.univ
    k0_t1_loop.lb k0_t1_loop.ub k0_t1_loop.st k0_t1_ok ⟨⟩ (pairProg L v2)
    (fun k _ => PairInv d L O q q' a b x k) (wp_pair d L O q q' a b x v2) (kk := kk) (Q := Q)
  iintro H Hk
  iapply h $$ H
  iintro %_ H
  iapply Hk
  iexact H

/-- A tile, from its shares of the operands and its rows of the result, leaves those rows at their value. -/
theorem tile_body (hF : (K (F := F)).Facts) (q : PosShare TreeShare) (x : Vec F S4096x5200 .f32) (a b : Vec F S32 .f32)
    (o : Vec F S4096x208 .f32) (O : CellTallies nD τ sig (HIx 1)) (W : Waits sig (HIx 1)) (hO : ∀ g, O g none = 0) :
    iprop(levAts (K (F := F)).L (K (F := F)).lev ∗ emp
        ∗ (Ops d L q x a b ∗ (mO.view.loc (thr d L) ↦[tileSet (L 0).val (L 1).val]{fullShare} o))
        ∗ scopedBufs (thr d L) ∗ scopedSems0 (thr d L) ∗ owes (thr d L) O W)
      ⊢ wpT d L (bodyProg L)
          fun _ => iprop((Ops d L q x a b
              ∗ (mO.view.loc (thr d L) ↦[tileSet (L 0).val (L 1).val]{fullShare} outF a b x))
            ∗ scopedBufs (thr d L) ∗ scopedSems0 (thr d L)
            ∗ ∃ W', ⌜∀ p ∈ W', p ∈ W ∨ p.2 = none ∨ p.2 = some (0 : Fin 1)⌝ ∗ owes (thr d L) O W') := by
  rw [(K (F := F)).scopedBufs_V hF d (cV L) (jV L), SparseCore.Cfg.scopedSems0_V (Val := Elt F) d (cV L) (jV L), ownSems0_V, ownBufs_V]
  unfold bodyProg
  rw [cc0__topk_body_eq_skeleton]
  unfold cc0__topk_body_skel
  simp only [Prog.lift, Prog.bind_op, Prog.bind_ret, bind_assoc, pure_bind]
  iintro ⟨#Hlv, -, ⟨⟨HX, HA, HB⟩, HM⟩, ⟨⟨%fa, Ha⟩, ⟨%fb, Hb⟩, ⟨%f0, H0⟩, ⟨%f1, H1⟩, ⟨%fo, Ho⟩, Hbufs⟩,
    ⟨Sa, Sb, S0, S1, So, Hsems⟩, HW⟩
  ihave #Hmw := (show levAts (K (F := F)).L (K (F := F)).lev ⊢ Transfers.MayWaits (thr d L) (default : HIx 1) O from
    (K (F := F)).mayWaits_none (thr := thr d L) hO) $$ Hlv
  ihave HW := (show owes (thr d L) O W ⊢ (Owing d L O : sProp 𝕄) from by
    unfold Owing; iintro H; iexists _; iexact H) $$ HW
  ihave HX := (pointsTo_share (PosShare.mem_left_op_right q)).1 $$ HX
  icases HX with ⟨HX, HX'⟩
  iapply (wp_copyTab d L (M := mA) (T := sA) (View.set_whole _)) $$ [HA Ha Sa HW]
  · isplitl [HA]; · iexact HA
    isplitl [Ha]; · iexact Ha
    isplitl [Sa]; · iexact Sa
    isplitl [HW]; · iexact HW
    iexact Hmw
  iintro ⟨HA, Ha, Sa, HW⟩
  iapply (wp_copyTab d L (M := mB) (T := sB) (View.set_whole _)) $$ [HB Hb Sb HW]
  · isplitl [HB]; · iexact HB
    isplitl [Hb]; · iexact Hb
    isplitl [Sb]; · iexact Sb
    isplitl [HW]; · iexact HW
    iexact Hmw
  iintro ⟨HB, Hb, Sb, HW⟩
  iapply (wp_startX d L (row0 L + 8 * (2 * 0)) (by rw [k0_off1_eq]; rfl)) $$ [HX H0 S0]
  · isplitl [HX]; · iexact HX
    isplitl [H0]; · iexact H0
    iexact S0
  iintro HF0
  have ha : sA.view.write (Elt F) fa (mA.view.read (Elt F) a) Finset.univ = a := View.write_whole_univ _ _ _
  have hb : sB.view.write (Elt F) fb (mB.view.read (Elt F) b) Finset.univ = b := View.write_whole_univ _ _ _
  rw [ha, hb]
  iapply (wp_pairs d L O q.left q.right a b x _) $$ [Ha Hb HM Ho So HX' H1 S1 HF0 HW]
  · unfold PairInv
    isplitl [Ha]; · iexact Ha
    isplitl [Hb]; · iexact Hb
    isplitl [HM]
    · unfold Done
      iexists o
      isplitr; swap
      · iexact HM
      ipureintro
      intro j h0 h1
      omega
    isplitl [Ho]; · iexists _; iexact Ho
    isplitl [So]; · iexact So
    isplitl [HX' H1 S1]
    · unfold Free
      isplitl [HX']; · iexact HX'
      isplitl [H1]; · iexists _; iexact H1
      iexact S1
    isplitl [HF0]
    · rw [if_pos (by decide)]; iexact HF0
    isplitl [HW]; · iexact HW
    iexact Hmw
  iintro H
  unfold PairInv Free Done Owing
  rw [if_neg (by decide)]
  icases H with ⟨Ha, Hb, ⟨%o', %ho', HM⟩, ⟨%fo', Ho⟩, So, ⟨HX', ⟨%f1', H1⟩, S1⟩, ⟨HX, ⟨%f0', H0⟩, S0⟩, ⟨%W', HW⟩, -⟩
  have hpt : (mO.view.loc (thr d L) ↦[tileSet (L 0).val (L 1).val]{fullShare} o' : sProp 𝕄)
      = (mO.view.loc (thr d L) ↦[tileSet (L 0).val (L 1).val]{fullShare} outF a b x) := by
    refine pointsTo_congr fun j hj => ?_
    have h := (Finset.mem_filter.mp hj).2
    have l0 : (L 0).val < 2 := (L 0).isLt
    exact ho' j (by unfold row0; omega) (by unfold row0; omega)
  rw [wpT, wp_pure]
  imodintro
  isplitl [HX HX' HA HB HM]
  · isplitl [HX HX' HA HB]
    · isplitl [HX HX']
      · iapply (pointsTo_share (PosShare.mem_left_op_right q)).2
        isplitl [HX]; · iexact HX
        iexact HX'
      isplitl [HA]; · iexact HA
      iexact HB
    · iapply (Entails.of_eq hpt)
      iexact HM
  isplitl [Ha Hb H0 H1 Ho Hbufs]
  · isplitl [Ha]; · iexists _; iexact Ha
    isplitl [Hb]; · iexists _; iexact Hb
    isplitl [H0]; · iexists _; iexact H0
    isplitl [H1]; · iexists _; iexact H1
    isplitl [Ho]; · iexists _; iexact Ho
    iexact Hbufs
  isplitl [Sa Sb S0 S1 So Hsems]
  · isplitl [Sa]; · iexact Sa
    isplitl [Sb]; · iexact Sb
    isplitl [S0]; · iexact S0
    isplitl [S1]; · iexact S1
    isplitl [So]; · iexact So
    iexact Hsems
  iexists _
  isplitr; swap
  · iexact HW
  ipureintro
  intro p _
  rcases p.2 with _ | r
  · exact .inr (.inl rfl)
  · exact .inr (.inr (congrArg some (Subsingleton.elim r 0)))

end Cert.Proof.KernelIdeal
end
-- ==== Proof.KernelIdeal.Run.lean ====
module

public import proofs.«01_k».proof.Proof.KernelIdeal.Tile
/-! The whole program's run: the launch's shares, the host operations, the one SparseCore call. -/
@[expose] public section
noncomputable section
namespace Cert.Proof.KernelIdeal
open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Net

variable {F : FTy → Type} [FloatOps F]

local notation "𝕄" => MT nD τ sig (HIx 1) (Elt F) ℕ UU ℕ

variable (d : Dev nD) (L : grid0.Coords)

open Idealize.ShloMosaic.StableHlo (held wp_seq after seq)

variable (m : (ℓ : Loc nD τ sig) → Buf (Elt F) ℓ) (ρ : Dev nD → PrngReg)

/-! ## The arrays of a device -/

/-- The matrix `x`, the kernel's first operand. -/
abbrev xLoc (d : Dev nD) : Loc nD τ sig := (SparseCore.T d).loc main_arg0
/-- The scales, the program's second argument. -/
abbrev alLoc (d : Dev nD) : Loc nD τ sig := (SparseCore.T d).loc main_arg1
/-- The shifts, the program's third argument. -/
abbrev beLoc (d : Dev nD) : Loc nD τ sig := (SparseCore.T d).loc main_arg2
/-- The padded table of the scales. -/
abbrev taLoc (d : Dev nD) : Loc nD τ sig := (SparseCore.T d).loc main_v0
/-- The padded table of the shifts. -/
abbrev tbLoc (d : Dev nD) : Loc nD τ sig := (SparseCore.T d).loc main_v1
/-- The result. -/
abbrev oLoc (d : Dev nD) : Loc nD τ sig := (SparseCore.T d).loc main_v2

/-- A table of 26 entries padded with six zeros. -/
def tab (v : Vec F S26 .f32) : Vec F S32 .f32 :=
  pad S32 ![0] ![6] ![0] v (sitofp .f32 (constantI S_ 32 0#32)) pads_S26_S32_060 h_S_

/-- The result the kernel leaves, of the launch memory. -/
def res (d : Dev nD) : Vec F S4096x208 .f32 := outF (tab (m (alLoc d))) (tab (m (beLoc d))) (m (xLoc d))

/-! ## The shares of the read-only operands -/

/-- The share of SparseCore `c`'s subcore `i` of each read-only operand. -/
abbrev qt (c : Fin 2) (i : Fin 16) : PosShare TreeShare := Transfers.shareTok (Transfers.shareTok fullShare 2 c) 16 i

omit [FloatOps F] in
/-- Products re-associate. -/
theorem assoc_eq (A B C : sProp 𝕄) : iprop((A ∗ B) ∗ C) = iprop(A ∗ B ∗ C) := by
  have h1 : iprop((A ∗ B) ∗ C) ⊢ (iprop(A ∗ B ∗ C) : sProp 𝕄) := by
    iintro ⟨⟨HA, HB⟩, HC⟩
    isplitl [HA]; · iexact HA
    isplitl [HB] <;> iassumption
  have h2 : iprop(A ∗ B ∗ C) ⊢ (iprop((A ∗ B) ∗ C) : sProp 𝕄) := by
    iintro ⟨HA, HB, HC⟩
    isplitl [HA HB]
    · isplitl [HA] <;> iassumption
    iexact HC
  exact Entails.antisymm h1 h2

omit [FloatOps F] in
/-- A points-to at a share is what is left after `n` tokens, and the tokens. -/
theorem toks_eq {ℓ : Loc nD τ sig} (f : Buf (Elt F) ℓ) (q : PosShare TreeShare) (n : ℕ) :
    (ℓ ↦{q} f : sProp 𝕄) = iprop((ℓ ↦{Transfers.shareDrop q n} f)
      ∗ bigSep Finset.univ fun i : Fin n => ℓ ↦{Transfers.shareTok q n i} f) :=
  Entails.antisymm (Transfers.pointsTo_toks q n).1 (Transfers.pointsTo_toks q n).2

/-- What the TensorCore keeps of an operand during the call. -/
def kept (ℓ : Loc nD τ sig) (f : Buf (Elt F) ℓ) : sProp 𝕄 :=
  iprop((ℓ ↦{Transfers.shareDrop fullShare 2} f)
    ∗ bigSep Finset.univ fun c : Fin 2 => ℓ ↦{Transfers.shareDrop (Transfers.shareTok fullShare 2 c) 16} f)

omit [FloatOps F] in
/-- An operand held whole is what the TensorCore keeps and one share for every tile. -/
theorem deal {ℓ : Loc nD τ sig} (f : Buf (Elt F) ℓ) :
    (ℓ ↦{fullShare} f : sProp 𝕄) = iprop(kept ℓ f
      ∗ bigSep Finset.univ fun c : Fin 2 => bigSep Finset.univ fun i : Fin 16 => ℓ ↦{qt c i} f) := by
  unfold kept
  rw [toks_eq f fullShare 2, assoc_eq, ← bigSep_sep']
  congr 1
  exact bigSep_congr fun c _ => toks_eq f _ 16

/-! ## The rows of the result -/

/-- The rows SparseCore `c` writes. -/
def coreSet (c : ℕ) : Finset S4096x208.Idx := Finset.univ.filter fun j => (j 0).val / 128 % 2 = c

/-- A tile's elements are those of its hundred and twenty-eight rows. -/
theorem mem_tileSet {c i : ℕ} {j : S4096x208.Idx} : j ∈ tileSet c i ↔ (j 0).val / 128 = 2 * i + c := by
  simp [tileSet]
/-- A SparseCore's elements are those of its tiles. -/
theorem mem_coreSet {c : ℕ} {j : S4096x208.Idx} : j ∈ coreSet c ↔ (j 0).val / 128 % 2 = c := by
  simp [coreSet]

/-- The two SparseCores write every row. -/
theorem core_cover : (Finset.univ : Finset (Fin 2)).biUnion (fun c => coreSet c.val) = Finset.univ := by
  ext j
  simp only [Finset.mem_biUnion, Finset.mem_univ, true_and, iff_true, mem_coreSet]
  exact ⟨⟨(j 0).val / 128 % 2, Nat.mod_lt _ (by omega)⟩, rfl⟩

/-- A SparseCore's rows are its sixteen tiles'. -/
theorem tile_cover (c : Fin 2) : (Finset.univ : Finset (Fin 16)).biUnion (fun i => tileSet c.val i.val) = coreSet c.val := by
  ext j
  simp only [Finset.mem_biUnion, Finset.mem_univ, true_and, mem_coreSet, mem_tileSet]
  have hj : (j 0).val < 4096 := (j 0).isLt
  have hc := c.isLt
  constructor
  · rintro ⟨i, h⟩; omega
  · intro h
    exact ⟨⟨(j 0).val / 128 / 2, by omega⟩, by simp only; omega⟩

omit [FloatOps F] in
/-- The result held whole is the tiles' rows. -/
theorem rows_eq (d : Dev nD) (f : Buf (Elt F) (oLoc d)) :
    (oLoc d ↦{fullShare} f : sProp 𝕄) = bigSep Finset.univ fun c : Fin 2 => bigSep Finset.univ fun i : Fin 16 =>
      oLoc d ↦[tileSet c.val i.val]{fullShare} f := by
  have h1 : (oLoc d ↦{fullShare} f : sProp 𝕄) = bigSep Finset.univ fun c : Fin 2 => oLoc d ↦[coreSet c.val]{fullShare} f := by
    rw [← pointsTo_biUnion Finset.univ (ℓ := oLoc d) (fun c : Fin 2 => coreSet c.val), core_cover]
    · intro a _ b _ hab
      rw [Finset.disjoint_left]; intro j hj hj'
      rw [mem_coreSet] at hj hj'
      exact hab (Fin.ext (hj.symm.trans hj'))
  rw [h1]
  refine bigSep_congr fun c _ => ?_
  rw [← pointsTo_biUnion Finset.univ (ℓ := oLoc d) (fun i : Fin 16 => tileSet c.val i.val), tile_cover]
  intro a _ b _ hab
  rw [Finset.disjoint_left]; intro j hj hj'
  rw [mem_tileSet] at hj hj'
  exact hab (Fin.ext (by omega))

/-! ## What the handshakes carry -/

/-- The three read-only operands at the share `q`: the matrix and the two padded tables. -/
abbrev opsAt (d : Dev nD) (q : PosShare TreeShare) : sProp 𝕄 :=
  iprop((xLoc d ↦{q} m (xLoc d)) ∗ (taLoc d ↦{q} tab (m (alLoc d))) ∗ (tbLoc d ↦{q} tab (m (beLoc d))))

/-- What one tile holds: its share of the operands, its rows of the result at `o`. -/
abbrev atTile (o : (d : Dev nD) → Vec F S4096x208 .f32) (d : Dev nD) (c : Fin 2) (i : Fin 16) : sProp 𝕄 :=
  iprop(opsAt m d (qt c i) ∗ (oLoc d ↦[tileSet c.val i.val]{fullShare} o d))

/-- What one SparseCore holds: its tiles' parts. -/
abbrev atCore (o : (d : Dev nD) → Vec F S4096x208 .f32) (d : Dev nD) (c : Fin 2) : sProp 𝕄 :=
  bigSep Finset.univ fun i : Fin 16 => atTile m o d c i

/-- The call takes every tile's part with the result as it was and brings it back with the result written. -/
def P : (K (F := F)).Pay (nD := nD) (Val := Elt F) (Name := ℕ) (U := UU) where
  st := fun q d c => match q with | 0 => atCore m (fun d => m (oLoc d)) d (Fin.cast nCore_zero c)
  dn := fun q d c => match q with | 0 => atCore m (res m) d (Fin.cast nCore_zero c)
  go := fun q d c i => match q with | 0 => atTile m (fun d => m (oLoc d)) d (Fin.cast nCore_zero c) (Fin.cast nSub_zero i)
  td := fun q d c i => match q with | 0 => atTile m (res m) d (Fin.cast nCore_zero c) (Fin.cast nSub_zero i)
  x := fun _ _ => iprop(emp)

instance P_storable : (P (F := F) m).IsStorable where
  st q d c := match q with
    | 0 => (inferInstance : BI.Storable (upEmb : UEmb _ 𝕄) (atCore m (fun d => m (oLoc d)) d (Fin.cast nCore_zero c)))
  dn q d c := match q with
    | 0 => (inferInstance : BI.Storable (upEmb : UEmb _ 𝕄) (atCore m (res m) d (Fin.cast nCore_zero c)))
  go q d c i := match q with
    | 0 => (inferInstance : BI.Storable (upEmb : UEmb _ 𝕄)
        (atTile m (fun d => m (oLoc d)) d (Fin.cast nCore_zero c) (Fin.cast nSub_zero i)))
  td q d c i := match q with
    | 0 => (inferInstance : BI.Storable (upEmb : UEmb _ 𝕄) (atTile m (res m) d (Fin.cast nCore_zero c) (Fin.cast nSub_zero i)))

/-! ## The tiles' obligation -/

/-- The grid point of a SparseCore and a subcore. -/
def coordsV (c : Fin (grid0.bound 0)) (s : Fin (grid0.bound 1)) : grid0.Coords :=
  fun | 0 => c | 1 => s | ⟨_ + 2, h⟩ => absurd h (Nat.not_lt.2 (Nat.le_add_left _ _))

/-- The body table's entry at a subcore is the kernel's body at that grid point. -/
theorem defs₀_vector (c : Fin τ.nSC) (s : Fin τ.nSub) :
    defs₀ (F := F) (.scVector c s) 0 () = SparseCore.onTile hcore0 hsub0 (fun c s => bodyProg (F := F) (coordsV c s)) ⟨⟩ c s := rfl

/-- Every tile's task meets its obligation. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) hF (qt (Fin.cast nCore_zero c) (Fin.cast nSub_zero i))
    (m (xLoc d)) (tab (m (alLoc d))) (tab (m (beLoc d))) (m (oLoc d)) O W hO

/-- A SparseCore's part is its tiles' parts, and theirs joined are its own. -/
theorem vecSplit : (K (F := F)).VecSplit' (P m) 0 := by
  intro d c
  show atCore m (fun d => m (oLoc d)) d (Fin.cast nCore_zero c) ⊢ |={Set.univ}=> iprop(
      (bigSep Finset.univ fun i : Fin 16 => atTile m (fun d => m (oLoc d)) d (Fin.cast nCore_zero c) i)
      ∗ ((bigSep Finset.univ fun i : Fin 16 => atTile m (res m) d (Fin.cast nCore_zero c) i)
          -∗ atCore m (res m) d (Fin.cast nCore_zero c)))
  iintro H; imodintro
  isplitl [H]; · iexact H
  iintro H; iexact H

/-- All the tiles' parts are the operands' shares and the result. -/
theorem cores_eq (o : (d : Dev nD) → Vec F S4096x208 .f32) (d : Dev nD) :
    (bigSep Finset.univ fun c : Fin 2 => atCore m o d c)
      = iprop(((bigSep Finset.univ fun c : Fin 2 => bigSep Finset.univ fun i : Fin 16 => xLoc d ↦{qt c i} m (xLoc d))
          ∗ (bigSep Finset.univ fun c : Fin 2 => bigSep Finset.univ fun i : Fin 16 => taLoc d ↦{qt c i} tab (m (alLoc d)))
          ∗ (bigSep Finset.univ fun c : Fin 2 => bigSep Finset.univ fun i : Fin 16 => tbLoc d ↦{qt c i} tab (m (beLoc d))))
        ∗ (oLoc d ↦{fullShare} o d)) := by
  rw [rows_eq]
  simp only [← bigSep_sep']

/-! ## The launch element: the handshakes' rounds -/

/-- The launch element of the resource algebra. -/
def u₀ : UU := (initOf (K (F := F)).hsCells (K (F := F)).hsToks, 1)

omit [FloatOps F] in
/-- A product of nothing is nothing. -/
theorem emps {I : Type} (s : Finset I) : (bigSep s fun _ => iprop(emp)) = (iprop(emp) : sProp 𝕄) := bigSep_emp_const s

/-- The launch deals the handshakes' rounds and nothing of the kernel's own. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [emps]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), emps]
  iempintro

/-! ## The host operations -/

/-- An array of the TensorCore as a buffer of the device. -/
abbrev tcb (b : Ref sig .tc) : DevRef τ sig := Proc.devRef .tc b

/-- Every array of the TensorCore. -/
abbrev S10 : Finset (DevRef τ sig) :=
  {tcb main_arg0, tcb main_arg1, tcb main_arg2, tcb main_v0, tcb main_v1, tcb main_v2,
    tcb main_c, tcb main_call0_v0, tcb main_c_0, tcb main_call1_v0}

/-- The operations that pad one table: the padding value converted to a float, the pad. -/
abbrev padOps (a : StableHlo.TRef sig ⟨S26, .f32⟩) (z : StableHlo.TRef sig ⟨S_, .i32⟩) (φ : fn_pad.Bufs) :
    List (HloOp τ sig (Elt F)) :=
  [StableHlo.TRef.unary z φ.v0 (sitofp .f32),
   StableHlo.TRef.binary a φ.v0 φ.v1 (fun x v => pad S32 ![0] ![6] ![0] x v pads_S26_S32_060 h_S_)]

/-- The host operations before the call: each table is padded with a converted integer zero. -/
abbrev preOps : List (HloOp τ sig (Elt F)) :=
  StableHlo.nullary main_c (constantI S_ 32 0#32) :: (padOps (.of main_arg1) (.of main_c) main_call0
    ++ StableHlo.nullary main_c_0 (constantI S_ 32 0#32) :: padOps (.of main_arg2) (.of main_c_0) main_call1)

/-- The program is its host operations, then the call. -/
theorem main_eq (d : Dev nD) : main (F := F) d = seq preOps >>= fun _ => sc.run d 0 := by
  simp only [main, fn_pad.body, preOps, padOps, List.cons_append, List.nil_append, seq, bind_assoc, pure_bind]
  rw [show (sc.run d 0 >>= fun _ => Pure.pure PUnit.unit) = sc.run d 0 from bind_pure (sc.run d 0)]

/-- The launch contents of a device's arrays. -/
def V0 (d : Dev nD) : Valuation τ sig (Elt F) := fun b => m (d, b)

omit [FloatOps F] in
/-- The ten arrays held whole, one by one. -/
theorem held_S10 (d : Dev nD) (W : Valuation τ sig (Elt F)) :
    (held (SparseCore.T d) S10 W : sProp 𝕄) = iprop((xLoc d ↦{fullShare} W (tcb main_arg0)) ∗ (alLoc d ↦{fullShare} W (tcb main_arg1))
      ∗ (beLoc d ↦{fullShare} W (tcb main_arg2)) ∗ (taLoc d ↦{fullShare} W (tcb main_v0)) ∗ (tbLoc d ↦{fullShare} W (tcb main_v1))
      ∗ (oLoc d ↦{fullShare} W (tcb main_v2)) ∗ ((SparseCore.T d).loc main_c ↦{fullShare} W (tcb main_c))
      ∗ ((SparseCore.T d).loc main_call0_v0 ↦{fullShare} W (tcb main_call0_v0)) ∗ ((SparseCore.T d).loc main_c_0 ↦{fullShare} W (tcb main_c_0))
      ∗ ((SparseCore.T d).loc main_call1_v0 ↦{fullShare} W (tcb main_call1_v0))) := by
  unfold held S10
  iterate 9 rw [SparseCore.bigSep_insert' (by decide)]
  rw [bigSep_singleton]

omit [FloatOps F] in
/-- The launch's unscoped buffers are the ten arrays at their launch contents. -/
theorem unscoped_held (d : Dev nD) :
    (unscopedBufs d (fun b => m ((SparseCore.T d).loc b)) : sProp 𝕄) = held (SparseCore.T d) S10 (V0 m d) := by
  rw [held_S10]
  unfold unscopedBufs
  rw [show (Finset.univ.filter fun b : Ref sig .tc => ¬ b.isScoped) = {main_arg0, main_arg1, main_arg2, main_v0, main_v1, main_v2,
    main_c, main_call0_v0, main_c_0, main_call1_v0} by decide]
  iterate 9 rw [SparseCore.bigSep_insert' (by decide)]
  rw [bigSep_singleton]
  rfl

/-- Every host operation works on the ten arrays. -/
theorem preOps_sub : ∀ op ∈ (preOps : List (HloOp τ sig (Elt F))), op.bufs ⊆ S10 := by
  intro op h
  simp only [preOps, padOps, List.cons_append, List.nil_append, List.mem_cons, List.not_mem_nil, or_false] at h
  rcases h with rfl | rfl | rfl | rfl | rfl | rfl
  · show ({tcb main_c} : Finset (DevRef τ sig)) ⊆ S10; decide
  · show ({tcb main_c, tcb main_call0_v0} : Finset (DevRef τ sig)) ⊆ S10; decide
  · show ({tcb main_arg1, tcb main_call0_v0, tcb main_v0} : Finset (DevRef τ sig)) ⊆ S10; decide
  · show ({tcb main_c_0} : Finset (DevRef τ sig)) ⊆ S10; decide
  · show ({tcb main_c_0, tcb main_call1_v0} : Finset (DevRef τ sig)) ⊆ S10; decide
  · show ({tcb main_arg2, tcb main_call1_v0, tcb main_v1} : Finset (DevRef τ sig)) ⊆ S10; decide

/-- No host operation's result is left unchosen. -/
theorem preOps_fresh : ∀ op ∈ (preOps : List (HloOp τ sig (Elt F))), op.fresh = ∅ := by
  intro op h
  simp only [preOps, padOps, List.cons_append, List.nil_append, List.mem_cons, List.not_mem_nil, or_false] at h
  rcases h with rfl | rfl | rfl | rfl | rfl | rfl <;> rfl

/-- The host's operations leave the input as it was. -/
theorem after_x (d : Dev nD) : after preOps (V0 m d) (tcb main_arg0) = m (xLoc d) := by
  simp only [preOps, padOps, List.cons_append, List.nil_append, StableHlo.TRef.unary, StableHlo.TRef.binary, StableHlo.TRef.toBuf, StableHlo.TRef.ofBuf, cast_eq]
  after_results_simp
  rfl
/-- The host's operations leave the scales as they were. -/
theorem after_al (d : Dev nD) : after preOps (V0 m d) (tcb main_arg1) = m (alLoc d) := by
  simp only [preOps, padOps, List.cons_append, List.nil_append, StableHlo.TRef.unary, StableHlo.TRef.binary, StableHlo.TRef.toBuf, StableHlo.TRef.ofBuf, cast_eq]
  after_results_simp
  rfl
/-- The host's operations leave the shifts as they were. -/
theorem after_be (d : Dev nD) : after preOps (V0 m d) (tcb main_arg2) = m (beLoc d) := by
  simp only [preOps, padOps, List.cons_append, List.nil_append, StableHlo.TRef.unary, StableHlo.TRef.binary, StableHlo.TRef.toBuf, StableHlo.TRef.ofBuf, cast_eq]
  after_results_simp
  rfl
/-- The host's operations leave the result as it was. -/
theorem after_o (d : Dev nD) : after preOps (V0 m d) (tcb main_v2) = m (oLoc d) := by
  simp only [preOps, padOps, List.cons_append, List.nil_append, StableHlo.TRef.unary, StableHlo.TRef.binary, StableHlo.TRef.toBuf, StableHlo.TRef.ofBuf, cast_eq]
  after_results_simp
  rfl
/-- The host's operations leave the padded scales. -/
theorem after_ta (d : Dev nD) : after preOps (V0 m d) (tcb main_v0) = tab (m (alLoc d)) := by
  simp only [preOps, padOps, List.cons_append, List.nil_append, StableHlo.TRef.unary, StableHlo.TRef.binary, StableHlo.TRef.toBuf, StableHlo.TRef.ofBuf, cast_eq]
  after_results_simp
  rfl
/-- The host's operations leave the padded shifts. -/
theorem after_tb (d : Dev nD) : after preOps (V0 m d) (tcb main_v1) = tab (m (beLoc d)) := by
  simp only [preOps, padOps, List.cons_append, List.nil_append, StableHlo.TRef.unary, StableHlo.TRef.binary, StableHlo.TRef.toBuf, StableHlo.TRef.ofBuf, cast_eq]
  after_results_simp
  rfl

/-! ## The program on the TensorCore -/

/-- What the program leaves the claim: the arguments as they were, the result written. -/
abbrev FIN (d : Dev nD) : sProp 𝕄 :=
  iprop((xLoc d ↦{fullShare} m (xLoc d)) ∗ (alLoc d ↦{fullShare} m (alLoc d)) ∗ (beLoc d ↦{fullShare} m (beLoc d))
    ∗ (oLoc d ↦{fullShare} res m d))

/-- What the call takes is all the tiles' parts, the result as it was. -/
theorem st0_eq (d : Dev nD) : (bigSep Finset.univ fun c : Fin ((K (F := F)).nCore 0) => (P m).st 0 d c)
    = bigSep Finset.univ fun c : Fin 2 => atCore m (fun d => m (oLoc d)) d c := rfl
/-- What the call brings back is all the tiles' parts, the result written. -/
theorem dn0_eq (d : Dev nD) : (bigSep Finset.univ fun c : Fin ((K (F := F)).nCore 0) => (P m).dn 0 d c)
    = bigSep Finset.univ fun c : Fin 2 => atCore m (res m) d c := rfl

/-- The program on a device's TensorCore: the tables padded, the call made, the result left written. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_eq]
  iintro ⟨#Hctx, Hst, ⟨Hb, Hheld, Hts, -⟩, -⟩
  iapply (wp_seq 𝒱 none Set.univ d S10 (fun _ => sc.run d 0) preOps preOps_sub preOps_fresh (V0 m d)) $$ [Hb Hheld]
  · isplitl [Hb]; · iexact Hb
    iexact Hheld
  iintro ⟨Hb, Hheld⟩
  ihave Hh := (Entails.of_eq (held_S10 (F := F) d _)) $$ Hheld
  rw [after_x, after_al, after_be, after_ta, after_tb, after_o]
  icases Hh with ⟨Hx, Hal, Hbe, Hta, Htb, Ho, -⟩
  ihave Hx := (Entails.of_eq (deal (m (xLoc d)))) $$ Hx
  ihave Hta := (Entails.of_eq (deal (ℓ := taLoc d) (tab (m (alLoc d))))) $$ Hta
  ihave Htb := (Entails.of_eq (deal (ℓ := tbLoc d) (tab (m (beLoc d))))) $$ Htb
  icases Hx with ⟨Hxk, Hx⟩
  icases Hta with ⟨-, Hta⟩
  icases Htb with ⟨-, Htb⟩
  iapply ((K (F := F)).wp_run (D (F := F)) 𝒱 (EH := EH) (P := P m) κ d 0) $$ [Hst Hx Hxk Hal Hbe Hta Htb Ho Hb Hts]
  isplitr; · iexact Hctx
  isplitl [Hst]; · iexact Hst
  isplitl [Hx Hta Htb Ho]
  · rw [st0_eq, cores_eq]
    isplitr [Ho]
    · isplitl [Hx]; · iexact Hx
      isplitl [Hta]; · iexact Hta
      iexact Htb
    iexact Ho
  iintro ⟨Hst, Hdn⟩
  ihave Hdn' := (Entails.of_eq ((dn0_eq m d).trans (cores_eq m (res m) d))) $$ Hdn
  icases Hdn' with ⟨⟨Hx, -, -⟩, Ho⟩
  isplitl [Hst]; · iexact Hst
  isplitr [Hb Hts]
  · isplitl [Hx Hxk]
    · iapply (Entails.of_eq (deal (m (xLoc d))).symm)
      isplitl [Hxk]; · iexact Hxk
      iexact Hx
    isplitl [Hal]; · iexact Hal
    isplitl [Hbe]; · iexact Hbe
    iexact Ho
  isplitl [Hb] <;> iassumption

/-- What a final state shows of a device. -/
def fq (d : Dev nD) (s' : Phys nD τ sig (Elt F)) : Prop :=
  s'.mem.mem (xLoc d) = m (xLoc d) ∧ s'.mem.mem (alLoc d) = m (alLoc d) ∧ s'.mem.mem (beLoc d) = m (beLoc d)
    ∧ s'.mem.mem (oLoc d) = res m d

omit [FloatOps F] in
/-- An array held whole at `f` is at `f` in the state. -/
theorem agree {ℓ : Loc nD τ sig} (f : Buf (Elt F) ℓ) (s' : Phys nD τ sig (Elt F)) :
    iprop(SI s' ∗ (ℓ ↦{fullShare} f)) ⊢ (iprop(⌜s'.mem.mem ℓ = f⌝ ∗ SI s') : sProp 𝕄) := by
  iintro H
  ihave H := (persistent_entails_right (SI_pointsTo_agree (st := s') (ℓ := ℓ) (I := Finset.univ) (q := fullShare) (f := f))) $$ H
  icases H with ⟨%h, HSI, -⟩
  isplitr
  · ipureintro; exact funext fun i => h i (Finset.mem_univ i)
  iexact HSI

/-- What the program leaves says what a final state shows. -/
theorem hfin (d : Dev nD) (s' : Phys nD τ sig (Elt F)) : iprop(FIN m d ∗ SI s') ⊢ (⌜fq m d s'⌝ : sProp 𝕄) := by
  iintro ⟨⟨Hx, Hal, Hbe, Ho⟩, HSI⟩
  ihave H := (agree (m (xLoc d)) s') $$ [HSI Hx]
  · isplitl [HSI] <;> iassumption
  icases H with ⟨%hx, HSI⟩
  ihave H := (agree (m (alLoc d)) s') $$ [HSI Hal]
  · isplitl [HSI] <;> iassumption
  icases H with ⟨%ha, HSI⟩
  ihave H := (agree (m (beLoc d)) s') $$ [HSI Hbe]
  · isplitl [HSI] <;> iassumption
  icases H with ⟨%hb, HSI⟩
  ihave H := (agree (ℓ := oLoc d) (res m d) s') $$ [HSI Ho]
  · isplitl [HSI] <;> iassumption
  icases H with ⟨%ho, -⟩
  ipureintro; exact ⟨hx, ha, hb, ho⟩

/-! ## The program's run -/

/-- Every device's arguments are as they were and its result is the kernel's value; every counter is zero. -/
def QC : PUnit × MemSt nD τ sig (Elt F) → Prop := fun r =>
  (∀ c : Dev nD, r.2.mem (xLoc c) = m (xLoc c) ∧ r.2.mem (alLoc c) = m (alLoc c) ∧ r.2.mem (beLoc c) = m (beLoc c)
    ∧ r.2.mem (oLoc c) = res m c) ∧ r.2.sem = fun _ => 0

/-- Every weakly fair execution of the program ends with the arguments unchanged and the result at the kernel's value. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.KernelIdeal
end
-- ==== Proof.Top.lean ====
/-
  The eight greatest of a list: over a linear order the kernel's registers hold, after all the trips, the first eight
  entries of the list sorted descending. A value is located by which thresholds lie strictly below it, and each
  threshold turns the networks into the counting networks over truth values.
-/
module

public import proofs.«01_k».proof.Proof.Net
public import Mathlib.Order.Lattice
public import Mathlib.Order.Interval.Finset.Fin
public import Mathlib.Data.Finset.Card
public import Mathlib.Algebra.BigOperators.Fin

@[expose] public section

namespace Cert.Proof.Top

open Cert.Proof.Net

universe u
variable {α : Type u} [LinearOrder α]

/-- The registers after `k` trips over the list `y`, from `bot`. -/
def tops (bot : α) (y : ℕ → α) : ℕ → R8 α
  | 0 => (bot, bot, bot, bot, bot, bot, bot, bot)
  | k + 1 => trip8 min max (tops bot y k)
      (y (8 * k + 0), y (8 * k + 1), y (8 * k + 2), y (8 * k + 3), y (8 * k + 4), y (8 * k + 5), y (8 * k + 6),
        y (8 * k + 7))

/-- How many of the first `n` entries lie strictly above `t`. -/
def above (y : ℕ → α) (t : α) (n : ℕ) : ℕ := ∑ m ∈ Finset.range n, (decide (t < y m)).toNat

/-- Which registers lie strictly above a threshold: as many of them as entries do. -/
theorem map8_tops (bot : α) (hbot : ∀ a, bot ≤ a) (y : ℕ → α) (t : α) (k : ℕ) :
    map8 (fun a => decide (t < a)) (tops bot y k) = desc (above y t (8 * k)) := by
  induction k with
  | zero =>
    have h : decide (t < bot) = false := decide_eq_false (not_lt.2 (hbot t))
    have e : ∀ c : Bool, c = false → (c, c, c, c, c, c, c, c) = desc 0 := by rintro _ rfl; rfl
    exact e _ h
  | succ k ih =>
    have h := map8_trip8 (mn := min) (mx := max) (mn' := (· && ·)) (mx' := (· || ·)) (fun a => decide (t < a))
      (fun a b => by simp [lt_min_iff]) (fun a b => by simp [lt_max_iff]) (tops bot y k)
      (y (8 * k + 0), y (8 * k + 1), y (8 * k + 2), y (8 * k + 3), y (8 * k + 4), y (8 * k + 5), y (8 * k + 6),
        y (8 * k + 7))
    refine h.trans ?_
    rw [ih, trip8_desc]
    congr 1
    simp only [map8, cnt8, above, Nat.mul_add, Nat.mul_one, Finset.sum_range_succ, Nat.add_zero]
    omega

/-- An entry of the list sorted descending lies strictly above a threshold exactly when more entries than its
    position do. -/
theorem lt_sorted_iff {n : ℕ} (y : ℕ → α) (σ : Fin n → Fin n) (hσ : Function.Bijective σ)
    (hs : ∀ i j : Fin n, i < j → y (σ j) ≤ y (σ i)) (t : α) (d : Fin n) : t < y (σ d) ↔ d.val < above y t n := by
  have hc : above y t n = (Finset.univ.filter fun i : Fin n => t < y (σ i)).card := by
    rw [Finset.card_filter, above, Finset.sum_range]
    refine (Fintype.sum_bijective σ hσ _ _ fun i => ?_).symm
    by_cases h : t < y (σ i) <;> simp [h]
  rw [hc]
  constructor
  · intro h
    have hsub : Finset.Iic d ⊆ Finset.univ.filter fun i : Fin n => t < y (σ i) := by
      intro i hi
      rcases (Finset.mem_Iic.1 hi).lt_or_eq with h' | h'
      · exact Finset.mem_filter.2 ⟨Finset.mem_univ _, lt_of_lt_of_le h (hs i d h')⟩
      · exact Finset.mem_filter.2 ⟨Finset.mem_univ _, h' ▸ h⟩
    have := Finset.card_le_card hsub
    rw [Fin.card_Iic] at this
    omega
  · intro h
    by_contra hn
    have hsub : (Finset.univ.filter fun i : Fin n => t < y (σ i)) ⊆ Finset.Iio d := by
      intro i hi
      rw [Finset.mem_Iio]
      by_contra hd
      rcases (not_lt.1 hd).lt_or_eq with h' | h'
      · exact hn (lt_of_lt_of_le (Finset.mem_filter.1 hi).2 (hs d i h'))
      · exact hn (h' ▸ (Finset.mem_filter.1 hi).2)
    have := Finset.card_le_card hsub
    rw [Fin.card_Iio] at this
    omega

/-- Two values with the same thresholds strictly below them are equal. -/
theorem eq_of_lt_iff {a b : α} (h : ∀ t, t < a ↔ t < b) : a = b :=
  le_antisymm (not_lt.1 fun hb => lt_irrefl _ ((h b).1 hb)) (not_lt.1 fun ha => lt_irrefl _ ((h a).2 ha))

/-- Two descending arrangements of one list agree. -/
theorem sorted_unique {n : ℕ} (y : ℕ → α) (σ τ : Fin n → Fin n) (hσ : Function.Bijective σ) (hτ : Function.Bijective τ)
    (hs : ∀ i j : Fin n, i < j → y (σ j) ≤ y (σ i)) (ht : ∀ i j : Fin n, i < j → y (τ j) ≤ y (τ i)) (d : Fin n) :
    y (σ d) = y (τ d) :=
  eq_of_lt_iff fun t => (lt_sorted_iff y σ hσ hs t d).trans (lt_sorted_iff y τ hτ ht t d).symm

/-- The registers after all the trips are the first eight entries of the list sorted descending. -/
theorem tops_sorted (bot : α) (hbot : ∀ a, bot ≤ a) (y : ℕ → α) (K : ℕ) (σ : Fin (8 * K) → Fin (8 * K))
    (hσ : Function.Bijective σ) (hs : ∀ i j : Fin (8 * K), i < j → y (σ j) ≤ y (σ i)) (d : Fin 8)
    (hd : d.val < 8 * K) : get8 (tops bot y K) d = y (σ ⟨d.val, hd⟩) := by
  refine eq_of_lt_iff fun t => ?_
  rw [lt_sorted_iff y σ hσ hs t ⟨d.val, hd⟩, ← decide_eq_true_iff (p := t < get8 (tops bot y K) d)]
  have h := get8_map8 (fun a => decide (t < a)) (tops bot y K) d
  rw [map8_tops bot hbot] at h
  rw [← h, desc, get8_of8, decide_eq_true_iff]

/-- The same after a monotone map of the entries: the registers, mapped, are the first eight entries of the mapped
    list sorted descending, however that list was sorted. -/
theorem map_tops_sorted {β : Type u} [LinearOrder β] (φ : α → β) (hφ : Monotone φ) (bot : α) (hbot : ∀ a, bot ≤ a)
    (y : ℕ → α) (K : ℕ) (σ τ : Fin (8 * K) → Fin (8 * K)) (hσ : Function.Bijective σ) (hτ : Function.Bijective τ)
    (hs : ∀ i j : Fin (8 * K), i < j → y (σ j) ≤ y (σ i))
    (ht : ∀ i j : Fin (8 * K), i < j → φ (y (τ j)) ≤ φ (y (τ i))) (d : Fin 8) (hd : d.val < 8 * K) :
    φ (get8 (tops bot y K) d) = φ (y (τ ⟨d.val, hd⟩)) := by
  rw [tops_sorted bot hbot y K σ hσ hs d hd]
  exact sorted_unique (fun m => φ (y m)) σ τ hσ hτ (fun i j h => hφ (hs i j h)) ht ⟨d.val, hd⟩

end Cert.Proof.Top

end
-- ==== Proof.KernelIdeal.Value.lean ====
module

public import proofs.«01_k».proof.Proof.KernelIdeal.Run
public import proofs.«01_k».proof.Proof.Top
public import Mathlib.Data.EReal.Inv
public import Idealize.ShloMosaic.Lib.SortFacts
/-! The kernel's result over the extended reals, at an index: the registers of a lane are the greatest entries of its
    list, and the scale of their magnitude and the shift give the greatest entries of the scaled and shifted list. -/
@[expose] public section
noncomputable section
namespace Cert.Proof.KernelIdeal
open Cert.KernelIdeal Cert.KernelIdeal.Gen
open Idealize.SL.Sem Idealize.ShloMosaic
open Cert.Proof.Net Cert.Proof.Top

/-! ## One lane -/

/-- The sign of a scale: minus one below zero, one elsewhere. -/
def sg (a : EReal) : EReal := if a < 0 then -1 else 1

/-- The word of zero. -/
theorem bits_zero : Ideal.ofBits .f32 0x00000000#32 = 0 := by simp [Ideal.ofBits, Ideal.ieee]
/-- The word of one. -/
theorem bits_one : Ideal.ofBits .f32 0x3F800000#32 = 1 := by
  simp [Ideal.ofBits, Ideal.ieee, -EReal.coe_mul]; norm_num
/-- The word of minus one. -/
theorem bits_neg_one : Ideal.ofBits .f32 0xBF800000#32 = -1 := by
  simp [Ideal.ofBits, Ideal.ieee, -EReal.coe_mul]; norm_num
/-- The word of minus infinity. -/
theorem bits_bot : Ideal.ofBits .f32 0xFF800000#32 = ⊥ := by simp [Ideal.ofBits, Ideal.ieee]

/-- The kernel's sign vector, at a lane. -/
theorem sgn_apply (a : FVec Ideal S16 .f32) (x : S16.Idx) : (sgn (F := Ideal) a x : EReal) = sg (a x) := by
  have h : (sgn (F := Ideal) a x : EReal) = Scalar.select (Ideal.cmp .olt (a x) (Ideal.ofBits .f32 0x00000000#32))
      (Ideal.ofBits .f32 0xBF800000#32) (Ideal.ofBits .f32 0x3F800000#32) := rfl
  rw [h, bits_zero, bits_one, bits_neg_one, sg]
  by_cases h : (a x : EReal) < 0
  · rw [if_pos h]; simp [Ideal.cmp, h, Scalar.select]
  · rw [if_neg h]; simp [Ideal.cmp, h, Scalar.select]

/-- A lane's registers after `k` trips. -/
theorem regs_lane (s : FVec Ideal S16 .f32) (xb : Vec Ideal S8x5200 .f32) (r f0 k : ℕ) (x : S16.Idx) :
    map8 (fun v : FVec Ideal S16 .f32 => (v x : EReal)) (regs s xb r f0 k)
      = tops ⊥ (fun n => (s x * gatv xb r f0 n x : EReal)) k := by
  induction k with
  | zero =>
    have e : ∀ c : EReal, c = ⊥ → (c, c, c, c, c, c, c, c) = tops ⊥ (fun n => (s x * gatv xb r f0 n x : EReal)) 0 := by
      rintro _ rfl; rfl
    exact e _ bits_bot
  | succ k ih =>
    refine (map8_trip8 (mn := minimumf) (mx := maximumf) (mn' := min) (mx' := max)
      (fun v : FVec Ideal S16 .f32 => (v x : EReal)) (fun _ _ => rfl) (fun _ _ => rfl) (regs s xb r f0 k) _).trans ?_
    rw [ih]
    rfl

/-! ## The scale -/

/-- A sign is its own inverse. -/
theorem sg_sq (a : EReal) : sg a * sg a = 1 := by
  unfold sg; split <;> simp

/-- A scale times its sign is not negative. -/
theorem abs_nonneg (a : EReal) : 0 ≤ a * sg a := by
  unfold sg; split
  · next h => rw [mul_neg, mul_one]; exact EReal.neg_nonneg.2 h.le
  · next h => rw [mul_one]; exact not_lt.1 h

/-- Scaling by the magnitude and shifting keeps the order. -/
theorem scale_mono (a b : EReal) : Monotone fun y : EReal => a * sg a * y + b := fun _ _ h =>
  add_le_add_left (mul_le_mul_of_nonneg_left h (abs_nonneg a)) b

/-- The magnitude times the signed entry is the scale times the entry. -/
theorem scale_sign (a b x : EReal) : a * sg a * (sg a * x) + b = a * x + b := by
  rw [← mul_assoc, mul_assoc a, sg_sq, mul_one]

/-- Every list has a descending arrangement. -/
theorem exists_sorted {n : ℕ} (y : ℕ → EReal) :
    ∃ σ : Fin n → Fin n, Function.Bijective σ ∧ ∀ i j : Fin n, i < j → y (σ j) ≤ y (σ i) := by
  let R : Fin n → Fin n → Bool := fun k k' => decide (y k' < y k)
  refine ⟨sortedFrom R, ⟨sortedFrom_injective R, sortedFrom_surjective R⟩, fun i k h => ?_⟩
  have := sortedFrom_noInversion R R (fun x y h => decide_eq_false (not_lt.2 (of_decide_eq_true h).le)) (fun _ _ h => h)
    (fun x y z h1 h2 => decide_eq_false (not_lt.2 ((not_lt.1 (of_decide_eq_false h1)).trans
      (not_lt.1 (of_decide_eq_false h2))))) i k h
  exact not_lt.1 (of_decide_eq_false this)

/-- A lane's stored value is an entry of its scaled and shifted list sorted descending, however that list was sorted. -/
theorem rowv_apply (av bv : Vec Ideal S32 .f32) (xb : Vec Ideal S8x5200 .f32) (r f0 : ℕ) (d : Fin 8) (x : S16.Idx)
    (τ : Fin 200 → Fin 200) (hτ : Function.Bijective τ)
    (ht : ∀ i k : Fin 200, i < k →
      (win av f0 x * gatv xb r f0 (τ k).val x + win bv f0 x : EReal) ≤ win av f0 x * gatv xb r f0 (τ i).val x + win bv f0 x) :
    (rowv av bv xb r f0 d x : EReal)
      = win av f0 x * gatv xb r f0 (τ ⟨d.val, by omega⟩).val x + win bv f0 x := by
  have hr : ((get8 (regs (sgn (win av f0)) xb r f0 25) d) x : EReal)
      = get8 (tops ⊥ (fun n => (sg (win av f0 x) * gatv xb r f0 n x : EReal)) 25) d := by
    rw [← sgn_apply, ← regs_lane, get8_map8]
  have h : (rowv av bv xb r f0 d x : EReal) = win av f0 x * sgn (win av f0) x
      * (get8 (regs (sgn (win av f0)) xb r f0 25) d) x + win bv f0 x := rfl
  rw [h, hr, sgn_apply]
  obtain ⟨σ, hσ, hs⟩ := exists_sorted (n := 8 * 25) (fun n => (sg (win av f0 x) * gatv xb r f0 n x : EReal))
  refine (map_tops_sorted (fun y : EReal => win av f0 x * sg (win av f0 x) * y + win bv f0 x) (scale_mono _ _) ⊥
    (fun _ => bot_le) (fun n => (sg (win av f0 x) * gatv xb r f0 n x : EReal)) 25 σ τ hσ hτ hs (fun i k hik => ?_) d
    (by omega)).trans (scale_sign _ _ _)
  simp only [scale_sign]
  exact ht i k hik

end Cert.Proof.KernelIdeal
end
-- ==== Proof.ReferenceIdeal.Ref.lean ====
/-
  The reference's result read at an index: feature `f`'s scaled and shifted list, sorted descending, at one of its
  first eight positions.
-/
module

public import proofs.«01_k».proof.Proof.Gen.ReferenceIdeal.Run
public import Idealize.ShloMosaic.Lib.SortFacts
public import Idealize.ShloMosaic.Lib.ValueIdx
public import Idealize.ShloMosaic.Lib.Pointwise.Contract
public import Idealize.ShloMosaic.Lib.Pipeline.Value

@[expose] public section

noncomputable section

namespace Cert.Proof.ReferenceIdeal

open Cert.ReferenceIdeal Cert.ReferenceIdeal.Gen Idealize.ShloMosaic Idealize.SL.Sem
open Idealize.ShloMosaic.ValueIdx (select_zero select_one)

/-! ## The sort -/

/-- The comparator is the order's strict comparison. -/
theorem comparator_eq (l r : Ideal .f32) : (comparator_f32_d1 (F := Ideal) l r == 1#1) = decide ((l : EReal) < r) := by
  have hz : ∀ x : EReal, (Scalar.select (Ideal.cmp .une x x) (Ideal.ofBits .f32 0x7FC00000#32)
      (Scalar.select (Ideal.cmp .oeq x (Ideal.ofBits .f32 0x00000000#32)) (Ideal.ofBits .f32 0x00000000#32) x) : EReal)
        = x := by
    intro x
    have h1 : Ideal.cmp .une x x = 0#1 := by simp [Ideal.cmp]
    rw [h1, select_zero]
    by_cases h : x = Ideal.ofBits .f32 0x00000000#32
    · have h2 : Ideal.cmp .oeq x (Ideal.ofBits .f32 0x00000000#32) = 1#1 := by simp [Ideal.cmp, h]
      rw [h2, select_one, h]
    · have h2 : Ideal.cmp .oeq x (Ideal.ofBits .f32 0x00000000#32) = 0#1 := by simp [Ideal.cmp, h]
      rw [h2, select_zero]
  have e : comparator_f32_d1 (F := Ideal) l r = Ideal.cmp .olt (l : EReal) r :=
    (congrArg₂ (fun a b : EReal => Ideal.cmp .olt a b) (hz l) (hz r))
  rw [e]
  by_cases h : (l : EReal) < r <;> simp [Ideal.cmp, h]

/-- A sort of the rows, read at an index: the row's entry at the position a bijection puts there, the bijection
    arranging the row ascending. -/
theorem sort_apply (w : S4096x200.Idx → EReal) (a : Fin 4096) :
    ∃ τ : Fin 200 → Fin 200, Function.Bijective τ ∧ (∀ i k, i < k → w (ix2 a (τ i)) ≤ w (ix2 a (τ k))) ∧
      ∀ d : Fin 200, Host.sort S4096x200 1 (comparator_f32_d1 (F := Ideal)) w (ix2 a d) = w (ix2 a (τ d)) := by
  let R : Fin 200 → Fin 200 → Bool := fun k k' => decide (w (ix2 a k) < w (ix2 a k'))
  refine ⟨sortedFrom R, ⟨sortedFrom_injective R, sortedFrom_surjective R⟩, fun i k h => ?_, fun d => ?_⟩
  · have := sortedFrom_noInversion R R (fun x y h => decide_eq_false (not_lt.2 (of_decide_eq_true h).le)) (fun _ _ h => h)
      (fun x y z h1 h2 => decide_eq_false (not_lt.2 ((not_lt.1 (of_decide_eq_false h2)).trans
        (not_lt.1 (of_decide_eq_false h1))))) i k h
    exact not_lt.1 (of_decide_eq_false this)
  · have ha : ∀ k : Fin 200, (ix2 a d : S4096x200.Idx).along 1 k = ix2 a k := by
      intro k; funext b
      match b with
      | 0 => rfl
      | 1 => rfl
    have hR : (fun k k' : Fin 200 => comparator_f32_d1 (F := Ideal) (w ((ix2 a d : S4096x200.Idx).along 1 k))
        (w ((ix2 a d : S4096x200.Idx).along 1 k')) == 1#1) = R := by
      funext k k'
      rw [ha, ha, comparator_eq]
    exact (congrArg (fun B : Fin 200 → Fin 200 → Bool => w ((ix2 a d : S4096x200.Idx).along 1 (sortedFrom B d))) hR).trans
      (congrArg w (ha _))

/-! ## The product with the identity matrix -/

/-- The identity matrix as the reference writes it. -/
def eye : FVec Ideal S200x200 .f32 :=
  uitofp .f32 (cmpi .eq (addi (iotaInDim S200x200 32 0) (broadcastInDim S200x200 ![] bcast_S_S200x200 (constantI S_ 32 0#32)))
    (iotaInDim S200x200 32 1))

/-- The identity matrix at an index. -/
theorem eye_apply (a b : Fin 200) : (eye (ix2 a b) : EReal) = if a = b then 1 else 0 := by
  have h : (eye (ix2 a b) : EReal)
      = (((BitVec.ofBool (BitVec.ofNat 32 a.val + 0#32 == BitVec.ofNat 32 b.val)).toNat : ℝ) : EReal) := rfl
  rw [h]
  by_cases e : a = b
  · subst e; simp
  · have h' : (BitVec.ofNat 32 a.val + 0#32 == BitVec.ofNat 32 b.val) = false := by
      rw [beq_eq_false_iff_ne, BitVec.add_zero]
      intro h
      have h := congrArg BitVec.toNat h
      simp only [BitVec.toNat_ofNat] at h
      exact e (Fin.ext (by omega))
    rw [h', if_neg e]; simp

/-- The product with the identity matrix changes nothing. -/
theorem dot_eye (x : FVec Ideal S4096x200 .f32) (a : Fin 4096) (b : Fin 200) :
    (Host.dotGeneral dot_S4096x200_S200x200_S4096x200_1_0_0_1_n_n none x eye : FVec Ideal S4096x200 .f32) (ix2 a b)
      = x (ix2 a b) := by
  simp only [pointwise]
  rw [Finset.sum_eq_single b]
  · rw [eye_apply]; simp
  · intro k _ hk; rw [eye_apply]; simp [hk]
  · simp

/-! ## One feature -/

/-- Entry `i` of the scales and shifts, `i` held inside them. -/
def feat (i : ℕ) : S26.Idx
  | 0 => ⟨i % 26, Nat.mod_lt _ (by decide)⟩

/-- The word of the input at row `r` and column `c`, both held inside it. -/
def xat (r c : ℕ) : S4096x5200.Idx
  | 0 => ⟨r % 4096, Nat.mod_lt _ (by decide)⟩
  | 1 => ⟨min c 5199, Nat.lt_succ_of_le (Nat.min_le_right _ _)⟩

/-- Entry `n` of feature `i`'s scaled and shifted list in row `r`. -/
def ent (A B : S26.Idx → EReal) (X : S4096x5200.Idx → EReal) (r i n : ℕ) : EReal :=
  A (feat i) * X (xat r (i + 26 * n)) + B (feat i)

/-- `y` is entry `d` of feature `i`'s list in row `r`, sorted descending. -/
def IsTop (A B : S26.Idx → EReal) (X : S4096x5200.Idx → EReal) (r i d : ℕ) (y : EReal) : Prop :=
  ∃ τ : Fin 200 → Fin 200, Function.Bijective τ ∧
    (∀ i' k, i' < k → ent A B X r i (τ k).val ≤ ent A B X r i (τ i').val) ∧
    ∀ h : d < 200, y = ent A B X r i (τ ⟨d, h⟩).val

/-- The reference's result for feature `i`. -/
def piece (A B : FVec Ideal S26 .f32) (X : FVec Ideal S4096x5200 .f32) (i : ℕ) (h : S26.Slices ![i] S1)
    (hx : S4096x5200.SlicesBy (![0, i] : Fin 2 → ℕ) ![1, 26] S4096x200) : FVec Ideal S4096x8 .f32 :=
  extractStridedSlice S4096x8 ![0, 0] (Host.negf (Host.sort S4096x200 1 comparator_f32_d1 (Host.negf (addf
    (mulf (broadcastInDim S4096x200 ![] bcast_S_S4096x200 (shapeCast S_ (extractStridedSlice S1 ![i] A h) shapeCasts_S1_S_))
      (Host.dotGeneral dot_S4096x200_S200x200_S4096x200_1_0_0_1_n_n none (Host.slice S4096x200 ![0, i] ![1, 26] X hx) eye))
    (broadcastInDim S4096x200 ![] bcast_S_S4096x200 (shapeCast S_ (extractStridedSlice S1 ![i] B h) shapeCasts_S1_S_))))))
    slices_S4096x200_S4096x8_0_0

/-- A feature's scale or shift, spread over the rows. -/
theorem spread_apply (A : FVec Ideal S26 .f32) (i : ℕ) (hi : i < 26) (h : S26.Slices ![i] S1) (j : S4096x200.Idx) :
    broadcastInDim S4096x200 ![] bcast_S_S4096x200 (shapeCast S_ (extractStridedSlice S1 ![i] A h) shapeCasts_S1_S_) j
      = A (feat i) := by
  refine congrArg A (funext fun a => ?_)
  match a with
  | 0 =>
    apply Fin.ext
    show i + (_ : Fin 1).val = i % 26
    omega

/-- A feature's list before it is sorted. -/
theorem pre_apply (A B : FVec Ideal S26 .f32) (X : FVec Ideal S4096x5200 .f32) (i : ℕ) (hi : i < 26)
    (h : S26.Slices ![i] S1) (hx : S4096x5200.SlicesBy (![0, i] : Fin 2 → ℕ) ![1, 26] S4096x200) (a : Fin 4096)
    (b : Fin 200) :
    (Host.negf (addf
      (mulf (broadcastInDim S4096x200 ![] bcast_S_S4096x200 (shapeCast S_ (extractStridedSlice S1 ![i] A h) shapeCasts_S1_S_))
        (Host.dotGeneral dot_S4096x200_S200x200_S4096x200_1_0_0_1_n_n none (Host.slice S4096x200 ![0, i] ![1, 26] X hx) eye))
      (broadcastInDim S4096x200 ![] bcast_S_S4096x200 (shapeCast S_ (extractStridedSlice S1 ![i] B h) shapeCasts_S1_S_)))
      : FVec Ideal S4096x200 .f32) (ix2 a b) = (-(ent A B X a.val i b.val) : EReal) := by
  have hs : Host.slice S4096x200 ![0, i] ![1, 26] X hx (ix2 a b) = X (xat a.val (i + 26 * b.val)) := by
    refine congrArg X (funext fun c => ?_)
    match c with
    | 0 =>
      apply Fin.ext
      show 0 + 1 * a.val = a.val % 4096
      omega
    | 1 =>
      apply Fin.ext
      show i + 26 * b.val = min (i + 26 * b.val) 5199
      omega
  have e := congrArg₂ (fun x y z : EReal => -(x * y + z)) (spread_apply A i hi h (ix2 a b))
    ((dot_eye (Host.slice S4096x200 ![0, i] ![1, 26] X hx) a b).trans hs)
  exact (congrFun e _).trans (congrArg (fun z : EReal => -(A (feat i) * X (xat a.val (i + 26 * b.val)) + z))
    (spread_apply B i hi h (ix2 a b)))

/-- The reference's result for a feature, at an index. -/
theorem piece_apply (A B : FVec Ideal S26 .f32) (X : FVec Ideal S4096x5200 .f32) (i : ℕ) (hi : i < 26)
    (h : S26.Slices ![i] S1) (hx : S4096x5200.SlicesBy (![0, i] : Fin 2 → ℕ) ![1, 26] S4096x200) (j : S4096x8.Idx) :
    IsTop A B X (j 0).val i (j 1).val (piece A B X i h hx j) := by
  have hj0 : (j 0).val < 4096 := (j 0).isLt
  have hj1 : (j 1).val < 8 := (j 1).isLt
  obtain ⟨τ, hτ, hs, hd⟩ := sort_apply (Host.negf (addf
      (mulf (broadcastInDim S4096x200 ![] bcast_S_S4096x200 (shapeCast S_ (extractStridedSlice S1 ![i] A h) shapeCasts_S1_S_))
        (Host.dotGeneral dot_S4096x200_S200x200_S4096x200_1_0_0_1_n_n none (Host.slice S4096x200 ![0, i] ![1, 26] X hx) eye))
      (broadcastInDim S4096x200 ![] bcast_S_S4096x200 (shapeCast S_ (extractStridedSlice S1 ![i] B h) shapeCasts_S1_S_)))
      : FVec Ideal S4096x200 .f32) ⟨(j 0).val, hj0⟩
  refine ⟨τ, hτ, fun i' k hik => ?_, fun hlt => ?_⟩
  · have := hs i' k hik
    rw [pre_apply A B X i hi h hx, pre_apply A B X i hi h hx] at this
    exact EReal.neg_le_neg_iff.1 this
  · have := hd ⟨(j 1).val, hlt⟩
    rw [pre_apply A B X i hi h hx] at this
    have hx : ∀ w : S4096x200.Idx → EReal, extractStridedSlice S4096x8 ![0, 0] w slices_S4096x200_S4096x8_0_0 j
        = w (ix2 ⟨(j 0).val, hj0⟩ ⟨(j 1).val, hlt⟩) := by
      intro w
      refine congrArg w (funext fun c => ?_)
      match c with
      | 0 => exact Fin.ext (Nat.zero_add _)
      | 1 => exact Fin.ext (Nat.zero_add _)
    refine (hx _).trans ?_
    exact (congrArg (fun z : EReal => -z) this).trans (neg_neg _)

end Cert.Proof.ReferenceIdeal

end
-- ==== Proof.ReferenceIdeal.Term.lean ====
/-
  The reference's whole result at an index: column `c` belongs to feature `c / 8`, at position `c % 8`.
-/
module

public import proofs.«01_k».proof.Proof.ReferenceIdeal.Ref

@[expose] public section

noncomputable section

namespace Cert.Proof.ReferenceIdeal

open Cert.ReferenceIdeal Cert.ReferenceIdeal.Gen Idealize.ShloMosaic Idealize.SL.Sem

/-! ## Slabs of eight columns laid side by side -/

/-- Row `r` and column `c` of a slab of eight columns. -/
def at8 (r : Fin 4096) (c : ℕ) : S4096x8.Idx
  | 0 => r
  | 1 => ⟨c % 8, Nat.mod_lt _ (by decide)⟩

/-- Sixteen slabs side by side, at an index. -/
theorem read16 (x : Fin 16 → FVec Ideal S4096x8 .f32)
    (h : Shape.Concatenates [S4096x8, S4096x8, S4096x8, S4096x8, S4096x8, S4096x8, S4096x8, S4096x8, S4096x8, S4096x8,
      S4096x8, S4096x8, S4096x8, S4096x8, S4096x8, S4096x8] S4096x128 1) (j : S4096x128.Idx) (k : Fin 16)
    (hk : (j 1).val / 8 = k.val) :
    concatenate S4096x128 1 [⟨S4096x8, x 0⟩, ⟨S4096x8, x 1⟩, ⟨S4096x8, x 2⟩, ⟨S4096x8, x 3⟩, ⟨S4096x8, x 4⟩,
      ⟨S4096x8, x 5⟩, ⟨S4096x8, x 6⟩, ⟨S4096x8, x 7⟩, ⟨S4096x8, x 8⟩, ⟨S4096x8, x 9⟩, ⟨S4096x8, x 10⟩, ⟨S4096x8, x 11⟩,
      ⟨S4096x8, x 12⟩, ⟨S4096x8, x 13⟩, ⟨S4096x8, x 14⟩, ⟨S4096x8, x 15⟩] h j = x k (at8 (j 0) (j 1).val) := by
  refine concatenate_ofFn_apply (t := S4096x128) 1 x h rfl 8 rfl j k hk (at8 (j 0) (j 1).val) rfl fun b hb => ?_
  match b with
  | 0 => rfl
  | 1 => exact absurd rfl hb

/-- Ten slabs side by side, at an index. -/
theorem read10 (x : Fin 10 → FVec Ideal S4096x8 .f32)
    (h : Shape.Concatenates [S4096x8, S4096x8, S4096x8, S4096x8, S4096x8, S4096x8, S4096x8, S4096x8, S4096x8, S4096x8]
      S4096x80 1) (j : S4096x80.Idx) (k : Fin 10) (hk : (j 1).val / 8 = k.val) :
    concatenate S4096x80 1 [⟨S4096x8, x 0⟩, ⟨S4096x8, x 1⟩, ⟨S4096x8, x 2⟩, ⟨S4096x8, x 3⟩, ⟨S4096x8, x 4⟩,
      ⟨S4096x8, x 5⟩, ⟨S4096x8, x 6⟩, ⟨S4096x8, x 7⟩, ⟨S4096x8, x 8⟩, ⟨S4096x8, x 9⟩] h j = x k (at8 (j 0) (j 1).val) := by
  refine concatenate_ofFn_apply (t := S4096x80) 1 x h rfl 8 rfl j k hk (at8 (j 0) (j 1).val) rfl fun b hb => ?_
  match b with
  | 0 => rfl
  | 1 => exact absurd rfl hb

/-! ## The features -/

/-- Every feature has its scale and its shift. -/
theorem slices (i : ℕ) (hi : i < 26) : S26.Slices ![i] S1 := by
  refine ⟨rfl, fun a => ?_⟩
  match a with
  | 0 => exact hi

/-- Every feature has its list in every row. -/
theorem slicesBy (i : ℕ) (hi : i < 26) : S4096x5200.SlicesBy (![0, i] : Fin 2 → ℕ) ![1, 26] S4096x200 := by
  refine ⟨rfl, fun a => ?_⟩
  match a with
  | 0 => exact ⟨Nat.one_pos, Or.inr (by show 0 + 1 * 4095 < 4096; decide)⟩
  | 1 => exact ⟨Nat.succ_pos 25, Or.inr (by show i + 26 * 199 < 5200; omega)⟩

variable (V0 : Valuation τ sig (Elt Ideal))

/-- Feature `i`'s result of the launch memory. -/
def feature (i : ℕ) (hi : i < 26) : FVec Ideal S4096x8 .f32 :=
  piece (V0 (Proc.devRef .tc main_arg1)) (V0 (Proc.devRef .tc main_arg2)) (V0 (Proc.devRef .tc main_arg0)) i
    (slices i hi) (slicesBy i hi)

set_option maxRecDepth 8192 in
/-- The first sixteen features, at an index. -/
theorem left_apply (j : S4096x128.Idx) (k : Fin 16) (hk : (j 1).val / 8 = k.val) :
    (Value.res_main_v370 (F := Ideal) V0 : S4096x128.Idx → EReal) j
      = feature V0 k.val (by omega) (at8 (j 0) (j 1).val) :=
  read16 (fun k : Fin 16 => feature V0 k.val (by omega)) _ j k hk

set_option maxRecDepth 8192 in
/-- The last ten features, at an index. -/
theorem right_apply (j : S4096x80.Idx) (k : Fin 10) (hk : (j 1).val / 8 = k.val) :
    (Value.res_main_v371 (F := Ideal) V0 : S4096x80.Idx → EReal) j
      = feature V0 (16 + k.val) (by omega) (at8 (j 0) (j 1).val) :=
  read10 (fun k : Fin 10 => feature V0 (16 + k.val) (by omega)) _ j k hk

/-- The reference's result, of the launch memory. -/
def ref : S4096x208.Idx → EReal :=
  concatenate S4096x208 1 [⟨S4096x128, Value.res_main_v370 (F := Ideal) V0⟩, ⟨S4096x80, Value.res_main_v371 (F := Ideal) V0⟩]
    concatenates_S4096x128_S4096x80_S4096x208_d1

/-- Row `r` and column `c` of the first sixteen features' slab. -/
def at128 (r : Fin 4096) (c : ℕ) (h : c < 128) : S4096x128.Idx
  | 0 => r
  | 1 => ⟨c, h⟩

/-- Row `r` and column `c` of the last ten features' slab. -/
def at80 (r : Fin 4096) (c : ℕ) (h : c < 80) : S4096x80.Idx
  | 0 => r
  | 1 => ⟨c, h⟩

/-- The reference's result at an index: column `c` belongs to feature `c / 8`. -/
theorem ref_feature (j : S4096x208.Idx) (hi : (j 1).val / 8 < 26) :
    ref V0 j = feature V0 ((j 1).val / 8) hi (at8 (j 0) (j 1).val) := by
  have hj : (j 1).val < 208 := (j 1).isLt
  by_cases h : (j 1).val < 128
  · have e : ref V0 j = (Value.res_main_v370 (F := Ideal) V0 : S4096x128.Idx → EReal) (at128 (j 0) (j 1).val h) := by
      refine concatenate_apply_piece 1 _ _ j 0 ?_ S4096x128
        (Value.res_main_v370 (F := Ideal) V0) ?_ rfl 0 ?_ _ (fun b hb => ?_) ?_
      · exact Nat.zero_lt_two
      · rfl
      · rfl
      · match b with
        | 0 => rfl
        | 1 => exact absurd rfl hb
      · exact Nat.zero_add _
    rw [e, left_apply V0 _ ⟨(j 1).val / 8, by omega⟩ rfl]
    rfl
  · have e : ref V0 j
        = (Value.res_main_v371 (F := Ideal) V0 : S4096x80.Idx → EReal) (at80 (j 0) ((j 1).val - 128) (by omega)) := by
      refine concatenate_apply_piece 1 _ _ j 1 ?_ S4096x80
        (Value.res_main_v371 (F := Ideal) V0) ?_ rfl 128 ?_ _ (fun b hb => ?_) ?_
      · exact Nat.one_lt_two
      · rfl
      · rfl
      · match b with
        | 0 => rfl
        | 1 => exact absurd rfl hb
      · show 128 + ((j 1).val - 128) = (j 1).val
        omega
    have h8 : ((j 1).val - 128) / 8 = (j 1).val / 8 - 16 := by omega
    rw [e, right_apply V0 _ ⟨(j 1).val / 8 - 16, by omega⟩ h8]
    have hf : ∀ (i i' : ℕ) (h : i < 26) (h' : i' < 26) (y y' : S4096x8.Idx), i = i' → y = y' →
        feature V0 i h y = feature V0 i' h' y' := by rintro i _ h h' y _ rfl rfl; rfl
    refine hf _ _ _ _ _ _ (by simp only; omega) (funext fun a => ?_)
    match a with
    | 0 => rfl
    | 1 =>
      apply Fin.ext
      show ((j 1).val - 128) % 8 = (j 1).val % 8
      omega

/-- The reference's result at an index is an entry of a feature's sorted list. -/
theorem ref_top (j : S4096x208.Idx) :
    IsTop (V0 (Proc.devRef .tc main_arg1)) (V0 (Proc.devRef .tc main_arg2)) (V0 (Proc.devRef .tc main_arg0)) (j 0).val
      ((j 1).val / 8) ((j 1).val % 8) (ref V0 j) := by
  have hj : (j 1).val < 208 := (j 1).isLt
  have hi : (j 1).val / 8 < 26 := by omega
  rw [ref_feature V0 j hi]
  exact piece_apply _ _ _ ((j 1).val / 8) hi _ _ (at8 (j 0) (j 1).val)

end Cert.Proof.ReferenceIdeal

end
-- ==== Proof.Equal.lean ====
/-
  The kernel's result is the reference's, at every index: both are the same entry of a feature's scaled and shifted
  list sorted descending.
-/
module

public import proofs.«01_k».proof.Proof.KernelIdeal.Value
public import proofs.«01_k».proof.Proof.ReferenceIdeal.Term

@[expose] public section

noncomputable section

namespace Cert.Proof

open Idealize.ShloMosaic Idealize.SL.Sem
open Cert.Proof.KernelIdeal
open Cert.KernelIdeal (S26 S32 S16 S8x5200 S8x208 S4096x5200 S4096x208)

/-- The padded table holds the scales (or shifts) of the features. -/
theorem tab_apply (v : Vec Ideal S26 .f32) (i : ℕ) (hi : i < 26) : tab v (word i) = v (ReferenceIdeal.feat i) := by
  unfold tab pad
  rw [dif_pos]
  · refine congrArg v (funext fun a => ?_)
    match a with
    | 0 =>
      apply Fin.ext
      show (i % 32 - 0) / (0 + 1) = i % 26
      omega
  · intro a
    match a with
    | 0 =>
      refine ⟨Nat.zero_le _, ?_, ?_⟩
      · show (i % 32 - 0) % (0 + 1) = 0
        omega
      · show (i % 32 - 0) / (0 + 1) < 26
        omega

/-- The lane of a feature reads its scale or shift. -/
theorem win_feat (v : Vec Ideal S26 .f32) (i f0 : ℕ) (hi : i < 26) (h0 : f0 ≤ i) (h1 : i - f0 < 16) :
    win (tab v) f0 (lane (i - f0)) = v (ReferenceIdeal.feat i) := by
  have e : f0 + (lane (i - f0) 0).val = i := by
    show f0 + (i - f0) % 16 = i
    omega
  unfold win
  rw [e, tab_apply v i hi]

/-- The lane of a feature gathers its list. -/
theorem gatv_feat (x : Vec Ideal S4096x5200 .f32) (r i f0 n : ℕ) (hr : r < 4096) (h0 : f0 ≤ i) (h1 : i - f0 < 16) :
    gatv (xchunk x (8 * (r / 8))) (r % 8) f0 n (lane (i - f0)) = x (ReferenceIdeal.xat r (i + 26 * n)) := by
  refine congrArg x (funext fun a => ?_)
  match a with
  | 0 =>
    apply Fin.ext
    show (8 * (r / 8) + r % 8 % 8) % 4096 = r % 4096
    omega
  | 1 =>
    apply Fin.ext
    show min (min (f0 + (i - f0) % 16 + 26 * n) 5199) 5199 = min (i + 26 * n) 5199
    omega

/-- The kernel's result at an index is the entry of the feature's sorted list it names. -/
theorem outF_top (al be : Vec Ideal S26 .f32) (x : Vec Ideal S4096x5200 .f32) (j : S4096x208.Idx) (y : EReal)
    (h : ReferenceIdeal.IsTop al be x (j 0).val ((j 1).val / 8) ((j 1).val % 8) y) : outF (tab al) (tab be) x j = y := by
  have hj0 : (j 0).val < 4096 := (j 0).isLt
  have hj1 : (j 1).val < 208 := (j 1).isLt
  obtain ⟨τ, hτ, hs, hy⟩ := h
  have hg : grp (j 1).val ≤ (j 1).val / 8 ∧ (j 1).val / 8 - grp (j 1).val < 16 := by
    unfold grp; split <;> omega
  have hi : (j 1).val / 8 < 26 := by omega
  have e0 : (scell ((j 0).val % 8) (j 1).val 0).val = (j 0).val % 8 := by
    show (j 0).val % 8 % 8 = _
    omega
  have e1 : (scell ((j 0).val % 8) (j 1).val 1).val = (j 1).val := by
    show (j 1).val % 208 = _
    omega
  have key := rowv_apply (tab al) (tab be) (xchunk x (8 * ((j 0).val / 8))) ((j 0).val % 8) (grp (j 1).val)
    ⟨(j 1).val % 8, Nat.mod_lt _ (by decide)⟩ (lane ((j 1).val / 8 - grp (j 1).val)) τ hτ (fun i k hik => by
      rw [win_feat al _ _ hi hg.1 hg.2, win_feat be _ _ hi hg.1 hg.2, gatv_feat x _ _ _ _ hj0 hg.1 hg.2,
        gatv_feat x _ _ _ _ hj0 hg.1 hg.2]
      exact hs i k hik)
  rw [win_feat al _ _ hi hg.1 hg.2, win_feat be _ _ hi hg.1 hg.2, gatv_feat x _ _ _ _ hj0 hg.1 hg.2] at key
  unfold outF slabv
  simp only [e0, e1]
  exact key.trans (hy (by omega)).symm

end Cert.Proof

end
-- ==== Proof.lean ====
/- The proof of the certificate's claim: each program runs, leaves its arguments as they were and ends with every
   counter at zero, the ideal program is the kernel read over the extended reals, and there the kernel's result is the
   reference's. -/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.Equal
public import Idealize.ShloMosaic.Adequacy
public import Idealize.ShloMosaic.Init

@[expose] public section

noncomputable section

namespace Cert.Proof

open Idealize.ShloMosaic Idealize.SL.Sem

/-- The kernel runs, keeps its arguments and ends with every counter at zero. -/
theorem frame_k : Cert.quiescent_Kernel := fun m ρ _ =>
  (θ_run Cert.Kernel.defs _ _).mono (fun _ h => ⟨fun c => ⟨(h.1 c).1, (h.1 c).2.1, (h.1 c).2.2.1⟩, h.2⟩)
    (Cert.Proof.Kernel.run_main (F := Bits) m ρ)

/-- The ideal kernel runs, keeps its arguments and ends with every counter at zero. -/
theorem frame_ki : Cert.quiescent_KernelIdeal := fun m ρ _ =>
  (θ_run Cert.KernelIdeal.defs _ _).mono (fun _ h => ⟨fun c => ⟨(h.1 c).1, (h.1 c).2.1, (h.1 c).2.2.1⟩, h.2⟩)
    (Cert.Proof.KernelIdeal.run_main (F := Ideal) m ρ)

/-- The ideal reference runs, keeps its arguments; it declares no counter. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From the same arguments the ideal kernel and the ideal reference leave the same result, argument by argument
    unchanged. -/
theorem value_ki_ri : Cert.algebraic_KernelIdeal_ReferenceIdeal := fun m g m' g' _ hargs =>
  ⟨fun c => Cert.Proof.KernelIdeal.res (F := Ideal) m c,
    (θ_run Cert.KernelIdeal.defs _ _).mono
      (fun _ h c => ⟨(h.1 c).2.2.2, (h.1 c).1, (h.1 c).2.1, (h.1 c).2.2.1⟩)
      (Cert.Proof.KernelIdeal.run_main (F := Ideal) m g),
    (θ_run Cert.ReferenceIdeal.defs _ _).mono
      (fun r h c => ⟨(h c).1.trans (by
        have hx := (hargs c).1
        have ha := (hargs c).2.1
        have hb := (hargs c).2.2
        funext j
        have top := Cert.Proof.ReferenceIdeal.ref_top (StableHlo.launchContents m' c) j
        refine (Cert.Proof.outF_top _ _ _ j _ ?_).symm
        rw [← hx, ← ha, ← hb]
        exact top), (h c).2⟩)
      (Cert.ReferenceIdeal.Value.run (F := Ideal) m' g')⟩

/-- Everything the certificate claims. -/
theorem claim : Cert.Claim :=
  ⟨Cert.Kernel.Gen.facts, Cert.KernelIdeal.Gen.facts, Cert.ReferenceIdeal.Gen.facts, frame_k, frame_ki, frame_ri, trivial, value_ki_ri⟩

end Cert.Proof

end
